-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨5, ![1, 1, 1, 256, 256]⟩ ⟨5, ![2, 2, 4, 256, 256]⟩ (Layout.meshBlock [2, 2, 4] ![[0], [1], [2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x1x256x256 : Shape := ⟨5, ![1, 1, 1, 256, 256]⟩
abbrev S256x256 : Shape := ⟨2, ![256, 256]⟩
abbrev S12x64x256 : Shape := ⟨3, ![12, 64, 256]⟩
abbrev S16x64x256 : Shape := ⟨3, ![16, 64, 256]⟩
abbrev S16 : Shape := ⟨1, ![16]⟩
abbrev S_ : Shape := ⟨0, ![]⟩
abbrev S1 : Shape := ⟨1, ![1]⟩
abbrev S1x64x256 : Shape := ⟨3, ![1, 64, 256]⟩
abbrev S64x256 : Shape := ⟨2, ![64, 256]⟩
abbrev S1x1x1x64x256 : Shape := ⟨5, ![1, 1, 1, 64, 256]⟩

abbrev nBuf : Space → Nat
  | .hbm => 2
  | .vmem => 4
  | .smem => 0
  | _ => 0

abbrev bufTy : (tb : Table) → Fin (tcTables nBuf tb) → BufTy
  | .hbm, ⟨0, _⟩ => ⟨S1x1x1x256x256, .f32⟩
  | .hbm, ⟨1, _⟩ => ⟨S256x256, .f32⟩
  | .local _ .vmem, ⟨0, _⟩ => ⟨S1x1x1x256x256, .f32⟩
  | .local _ .vmem, ⟨1, _⟩ => ⟨S256x256, .f32⟩
  | .local _ .vmem, ⟨2, _⟩ => ⟨S12x64x256, .f32⟩
  | .local _ .vmem, ⟨3, _⟩ => ⟨S16x64x256, .f32⟩
  | _, _ => ⟨S1x1x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => true
  | ⟨1, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 2 34 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7 : BitVec 32 := 8#32
  let v14 : BitVec 32 := Scalar.muli v2 c8_i32_7
  let v15 : BitVec 32 := Scalar.addi c0_i32 v14
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v16 : BitVec 32 := Scalar.muli v5 c4_i32_8
  let v17 : BitVec 32 := Scalar.addi v15 v16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.xori v8 c2_i32_3
  let c1_i32_9 : BitVec 32 := 1#32
  let v18 : BitVec 32 := Scalar.muli v10 c1_i32_9
  let v19 : BitVec 32 := Scalar.addi v17 v18
  v19.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v20 : BitVec 32 := Scalar.muli v2 c8_i32_11
  let v21 : BitVec 32 := Scalar.addi c0_i32_12 v20
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_4 : BitVec 32 := 1#32
  let v11 : BitVec 32 := Scalar.xori v5 c1_i32_4
  let c4_i32_13 : BitVec 32 := 4#32
  let v22 : BitVec 32 := Scalar.muli v11 c4_i32_13
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v24 : BitVec 32 := Scalar.muli v8 c1_i32_14
  let v25 : BitVec 32 := Scalar.addi v23 v24
  v25.toNat
def k0_dev3 (d0 : Dev nD) : Nat :=
  let c0_i32_17 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_16 : BitVec 32 := 8#32
  let v26 : BitVec 32 := Scalar.muli v2 c8_i32_16
  let v27 : BitVec 32 := Scalar.addi c0_i32_17 v26
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_18 : BitVec 32 := 4#32
  let v28 : BitVec 32 := Scalar.muli v5 c4_i32_18
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_19 : BitVec 32 := 1#32
  let v30 : BitVec 32 := Scalar.muli v9 c1_i32_19
  let v31 : BitVec 32 := Scalar.addi v29 v30
  v31.toNat
def k0_dev4 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_5 : BitVec 32 := 1#32
  let v12 : BitVec 32 := Scalar.xori v2 c1_i32_5
  let c8_i32_21 : BitVec 32 := 8#32
  let v32 : BitVec 32 := Scalar.muli v12 c8_i32_21
  let v33 : BitVec 32 := Scalar.addi c0_i32_22 v32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v34 : BitVec 32 := Scalar.muli v5 c4_i32_23
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v36 : BitVec 32 := Scalar.muli v8 c1_i32_24
  let v37 : BitVec 32 := Scalar.addi v35 v36
  v37.toNat
def k0_dev5 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v38 : BitVec 32 := Scalar.muli v2 c8_i32_32
  let v39 : BitVec 32 := Scalar.addi c0_i32_33 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_4 : BitVec 32 := 1#32
  let v11 : BitVec 32 := Scalar.xori v5 c1_i32_4
  let c4_i32_34 : BitVec 32 := 4#32
  let v40 : BitVec 32 := Scalar.muli v11 c4_i32_34
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v42 : BitVec 32 := Scalar.muli v8 c1_i32_35
  let v43 : BitVec 32 := Scalar.addi v41 v42
  v43.toNat
def k0_dev6 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_44 : BitVec 32 := 8#32
  let v52 : BitVec 32 := Scalar.muli v2 c8_i32_44
  let v53 : BitVec 32 := Scalar.addi c0_i32_45 v52
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_4 : BitVec 32 := 1#32
  let v11 : BitVec 32 := Scalar.xori v5 c1_i32_4
  let c4_i32_46 : BitVec 32 := 4#32
  let v54 : BitVec 32 := Scalar.muli v11 c4_i32_46
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v56 : BitVec 32 := Scalar.muli v8 c1_i32_47
  let v57 : BitVec 32 := Scalar.addi v55 v56
  v57.toNat
def k0_dev7 (d0 : Dev nD) : Nat :=
  let c0_i32_58 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_57 : BitVec 32 := 8#32
  let v66 : BitVec 32 := Scalar.muli v2 c8_i32_57
  let v67 : BitVec 32 := Scalar.addi c0_i32_58 v66
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_59 : BitVec 32 := 4#32
  let v68 : BitVec 32 := Scalar.muli v5 c4_i32_59
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.xori v8 c2_i32_3
  let c1_i32_60 : BitVec 32 := 1#32
  let v70 : BitVec 32 := Scalar.muli v10 c1_i32_60
  let v71 : BitVec 32 := Scalar.addi v69 v70
  v71.toNat
def k0_dev8 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v80 : BitVec 32 := Scalar.muli v2 c8_i32_71
  let v81 : BitVec 32 := Scalar.addi c0_i32_72 v80
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_73 : BitVec 32 := 4#32
  let v82 : BitVec 32 := Scalar.muli v5 c4_i32_73
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.xori v8 c2_i32_3
  let c1_i32_74 : BitVec 32 := 1#32
  let v84 : BitVec 32 := Scalar.muli v10 c1_i32_74
  let v85 : BitVec 32 := Scalar.addi v83 v84
  v85.toNat
def k0_dev9 (d0 : Dev nD) : Nat :=
  let c0_i32_110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_5 : BitVec 32 := 1#32
  let v12 : BitVec 32 := Scalar.xori v2 c1_i32_5
  let c8_i32_109 : BitVec 32 := 8#32
  let v118 : BitVec 32 := Scalar.muli v12 c8_i32_109
  let v119 : BitVec 32 := Scalar.addi c0_i32_110 v118
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_111 : BitVec 32 := 4#32
  let v120 : BitVec 32 := Scalar.muli v5 c4_i32_111
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v122 : BitVec 32 := Scalar.muli v8 c1_i32_112
  let v123 : BitVec 32 := Scalar.addi v121 v122
  v123.toNat
def k0_dev10 (d0 : Dev nD) : Nat :=
  let c0_i32_149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_5 : BitVec 32 := 1#32
  let v12 : BitVec 32 := Scalar.xori v2 c1_i32_5
  let c8_i32_148 : BitVec 32 := 8#32
  let v156 : BitVec 32 := Scalar.muli v12 c8_i32_148
  let v157 : BitVec 32 := Scalar.addi c0_i32_149 v156
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_150 : BitVec 32 := 4#32
  let v158 : BitVec 32 := Scalar.muli v5 c4_i32_150
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v160 : BitVec 32 := Scalar.muli v8 c1_i32_151
  let v161 : BitVec 32 := Scalar.addi v159 v160
  v161.toNat
def k0_dev11 (d0 : Dev nD) : Nat :=
  let c0_i32_190 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_189 : BitVec 32 := 8#32
  let v194 : BitVec 32 := Scalar.muli v2 c8_i32_189
  let v195 : BitVec 32 := Scalar.addi c0_i32_190 v194
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_191 : BitVec 32 := 4#32
  let v196 : BitVec 32 := Scalar.muli v5 c4_i32_191
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_192 : BitVec 32 := 1#32
  let v198 : BitVec 32 := Scalar.muli v9 c1_i32_192
  let v199 : BitVec 32 := Scalar.addi v197 v198
  v199.toNat
def k0_dev12 (d0 : Dev nD) : Nat :=
  let c0_i32_228 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_227 : BitVec 32 := 8#32
  let v232 : BitVec 32 := Scalar.muli v2 c8_i32_227
  let v233 : BitVec 32 := Scalar.addi c0_i32_228 v232
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_229 : BitVec 32 := 4#32
  let v234 : BitVec 32 := Scalar.muli v5 c4_i32_229
  let v235 : BitVec 32 := Scalar.addi v233 v234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_230 : BitVec 32 := 1#32
  let v236 : BitVec 32 := Scalar.muli v9 c1_i32_230
  let v237 : BitVec 32 := Scalar.addi v235 v236
  v237.toNat
def k0_dev13 (d0 : Dev nD) : Nat :=
  let c0_i32_262 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_261 : BitVec 32 := 8#32
  let v269 : BitVec 32 := Scalar.muli v2 c8_i32_261
  let v270 : BitVec 32 := Scalar.addi c0_i32_262 v269
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_263 : BitVec 32 := 4#32
  let v271 : BitVec 32 := Scalar.muli v5 c4_i32_263
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.xori v8 c2_i32_3
  let c1_i32_264 : BitVec 32 := 1#32
  let v273 : BitVec 32 := Scalar.muli v10 c1_i32_264
  let v274 : BitVec 32 := Scalar.addi v272 v273
  v274.toNat
def k0_dev14 (d0 : Dev nD) : Nat :=
  let c0_i32_297 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_296 : BitVec 32 := 8#32
  let v306 : BitVec 32 := Scalar.muli v2 c8_i32_296
  let v307 : BitVec 32 := Scalar.addi c0_i32_297 v306
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_298 : BitVec 32 := 4#32
  let v308 : BitVec 32 := Scalar.muli v5 c4_i32_298
  let v309 : BitVec 32 := Scalar.addi v307 v308
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.xori v8 c2_i32_3
  let c1_i32_299 : BitVec 32 := 1#32
  let v310 : BitVec 32 := Scalar.muli v10 c1_i32_299
  let v311 : BitVec 32 := Scalar.addi v309 v310
  v311.toNat
def k0_dev15 (d0 : Dev nD) : Nat :=
  let c0_i32_333 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_332 : BitVec 32 := 8#32
  let v343 : BitVec 32 := Scalar.muli v2 c8_i32_332
  let v344 : BitVec 32 := Scalar.addi c0_i32_333 v343
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_4 : BitVec 32 := 1#32
  let v11 : BitVec 32 := Scalar.xori v5 c1_i32_4
  let c4_i32_334 : BitVec 32 := 4#32
  let v345 : BitVec 32 := Scalar.muli v11 c4_i32_334
  let v346 : BitVec 32 := Scalar.addi v344 v345
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_335 : BitVec 32 := 1#32
  let v347 : BitVec 32 := Scalar.muli v8 c1_i32_335
  let v348 : BitVec 32 := Scalar.addi v346 v347
  v348.toNat
def k0_dev16 (d0 : Dev nD) : Nat :=
  let c0_i32_369 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_368 : BitVec 32 := 8#32
  let v380 : BitVec 32 := Scalar.muli v2 c8_i32_368
  let v381 : BitVec 32 := Scalar.addi c0_i32_369 v380
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_4 : BitVec 32 := 1#32
  let v11 : BitVec 32 := Scalar.xori v5 c1_i32_4
  let c4_i32_370 : BitVec 32 := 4#32
  let v382 : BitVec 32 := Scalar.muli v11 c4_i32_370
  let v383 : BitVec 32 := Scalar.addi v381 v382
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_371 : BitVec 32 := 1#32
  let v384 : BitVec 32 := Scalar.muli v8 c1_i32_371
  let v385 : BitVec 32 := Scalar.addi v383 v384
  v385.toNat
def k0_dev17 (d0 : Dev nD) : Nat :=
  let c0_i32_405 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_5 : BitVec 32 := 1#32
  let v12 : BitVec 32 := Scalar.xori v2 c1_i32_5
  let c8_i32_404 : BitVec 32 := 8#32
  let v417 : BitVec 32 := Scalar.muli v12 c8_i32_404
  let v418 : BitVec 32 := Scalar.addi c0_i32_405 v417
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_406 : BitVec 32 := 4#32
  let v419 : BitVec 32 := Scalar.muli v5 c4_i32_406
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_407 : BitVec 32 := 1#32
  let v421 : BitVec 32 := Scalar.muli v8 c1_i32_407
  let v422 : BitVec 32 := Scalar.addi v420 v421
  v422.toNat
def k0_dev18 (d0 : Dev nD) : Nat :=
  let c0_i32_441 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_5 : BitVec 32 := 1#32
  let v12 : BitVec 32 := Scalar.xori v2 c1_i32_5
  let c8_i32_440 : BitVec 32 := 8#32
  let v454 : BitVec 32 := Scalar.muli v12 c8_i32_440
  let v455 : BitVec 32 := Scalar.addi c0_i32_441 v454
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_442 : BitVec 32 := 4#32
  let v456 : BitVec 32 := Scalar.muli v5 c4_i32_442
  let v457 : BitVec 32 := Scalar.addi v455 v456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_443 : BitVec 32 := 1#32
  let v458 : BitVec 32 := Scalar.muli v8 c1_i32_443
  let v459 : BitVec 32 := Scalar.addi v457 v458
  v459.toNat
def k0_dev19 (d0 : Dev nD) : Nat :=
  let c0_i32_476 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_475 : BitVec 32 := 8#32
  let v491 : BitVec 32 := Scalar.muli v2 c8_i32_475
  let v492 : BitVec 32 := Scalar.addi c0_i32_476 v491
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_477 : BitVec 32 := 4#32
  let v493 : BitVec 32 := Scalar.muli v5 c4_i32_477
  let v494 : BitVec 32 := Scalar.addi v492 v493
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_478 : BitVec 32 := 1#32
  let v495 : BitVec 32 := Scalar.muli v9 c1_i32_478
  let v496 : BitVec 32 := Scalar.addi v494 v495
  v496.toNat
def k0_dev20 (d0 : Dev nD) : Nat :=
  let c0_i32_511 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_510 : BitVec 32 := 8#32
  let v528 : BitVec 32 := Scalar.muli v2 c8_i32_510
  let v529 : BitVec 32 := Scalar.addi c0_i32_511 v528
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_512 : BitVec 32 := 4#32
  let v530 : BitVec 32 := Scalar.muli v5 c4_i32_512
  let v531 : BitVec 32 := Scalar.addi v529 v530
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_513 : BitVec 32 := 1#32
  let v532 : BitVec 32 := Scalar.muli v9 c1_i32_513
  let v533 : BitVec 32 := Scalar.addi v531 v532
  v533.toNat
abbrev stage0_0 : Fin 1 → Memref sig .tc .vmem S1x1x1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2x4x256x256 : Shape := ⟨5, ![2, 2, 4, 256, 256]⟩
abbrev S_ : Shape := ⟨0, ![]⟩
abbrev S256x256 : Shape := ⟨2, ![256, 256]⟩

abbrev nBuf : Space → Nat
  | .hbm => 3
  | .vmem => 0
  | .smem => 0
  | _ => 0

abbrev bufTy : (tb : Table) → Fin (tcTables nBuf tb) → BufTy
  | .hbm, ⟨0, _⟩ => ⟨S2x2x4x256x256, .f32⟩
  | .hbm, ⟨1, _⟩ => ⟨S_, .f32⟩
  | .hbm, ⟨2, _⟩ => ⟨S256x256, .f32⟩
  | _, _ => ⟨S2x2x4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Plan.lean ====
/- The kernel's text, read once. The body is the same three actions again and again — send a partial sum to a partner, take a
   partner's partial sum in and add it, wait for a send to leave — at a stream (one of four row bands of 64 rows) and a step (one of
   four). This module names the bands of the buffers, the semaphores and the partners by stream and step, writes the body in those
   terms (`kbody`), and proves that the printed body is that (`body_eq`). -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pointwise

@[expose] public section

noncomputable section

namespace Cert.KernelIdeal.Cube

open Idealize.ShloMosaic Idealize.ShloMosaic.TcCoe
open Idealize.SL Idealize.SL.Sem
open Cert.KernelIdeal Cert.KernelIdeal.Gen

variable {F : FTy → Type} [FloatOps F]

/-! ## Streams, steps, slots -/

/-- A slot: the stream and the step whose message it receives. -/
abbrev Slot := Fin 4 × Fin 4

/-- A slot's number in the receive buffer and in the two semaphore arrays. -/
abbrev num (j : Slot) : ℕ := 4 * j.1.val + j.2.val

theorem num_lt (j : Slot) : num j < 16 := by have := j.1.isLt; have := j.2.isLt; unfold num; omega

/-! ## The bands of the four buffers -/

/-- A memref of one band: 64 rows of 256. -/
abbrev Band := Memref sig .tc .vmem S64x256 .f32

abbrev xM : Memref sig .tc .vmem S1x1x1x256x256 .f32 := Memref.whole cc0_stg0_0
abbrev oM : Memref sig .tc .vmem S256x256 .f32 := Memref.whole cc0_stg1_0
abbrev aM : Memref sig .tc .vmem S12x64x256 .f32 := Memref.whole cc0_scratch0
abbrev vM : Memref sig .tc .vmem S16x64x256 .f32 := Memref.whole cc0_scratch1

theorem inb_x (s : Fin 4) : ∀ i, (![0, 0, 0, 64 * s.val, 0] : Fin 5 → ℕ) i + S1x1x1x64x256.size i ≤ S1x1x1x256x256.size i := by
  revert s; decide
theorem inb_o (s : Fin 4) : ∀ i, (![64 * s.val, 0] : Fin 2 → ℕ) i + S64x256.size i ≤ S256x256.size i := by
  revert s; decide
theorem inb_a (s : Fin 4) (i : Fin 3) : ∀ k, (![3 * s.val + i.val, 0, 0] : Fin 3 → ℕ) k + S1x64x256.size k ≤ S12x64x256.size k := by
  revert s i; decide
theorem inb_v (j : Slot) : ∀ k, (![num j, 0, 0] : Fin 3 → ℕ) k + S1x64x256.size k ≤ S16x64x256.size k := by
  revert j; decide

/-- The rectangle of stream `s`'s rows in the block of the input. -/
abbrev xRect (s : Fin 4) : Rect S1x1x1x256x256 := Rect.unit (s := S1x1x1x256x256) ![0, 0, 0, 64 * s.val, 0] S1x1x1x64x256.size (inb_x s)
/-- The rectangle of stream `s`'s rows in the result. -/
abbrev oRect (s : Fin 4) : Rect S256x256 := Rect.unit (s := S256x256) ![64 * s.val, 0] S64x256.size (inb_o s)
/-- The rectangle of stream `s`'s partial sum number `i` in the first scratch buffer. -/
abbrev aRect (s : Fin 4) (i : Fin 3) : Rect S12x64x256 := Rect.unit (s := S12x64x256) ![3 * s.val + i.val, 0, 0] S1x64x256.size (inb_a s i)
/-- The rectangle of slot `j` in the receive buffer. -/
abbrev vRect (j : Slot) : Rect S16x64x256 := Rect.unit (s := S16x64x256) ![num j, 0, 0] S1x64x256.size (inb_v j)

/-- Stream `s`'s rows of the block of the input. -/
abbrev xRow (s : Fin 4) : Band := (xM.slice (xRect s) (fun _ => rfl)).squeeze S64x256 squeezes_S1x1x1x64x256_S64x256
/-- Stream `s`'s rows of the result. -/
abbrev oRow (s : Fin 4) : Band := oM.slice (oRect s) (fun _ => rfl)
/-- Stream `s`'s partial sum number `i` in the first scratch buffer. -/
abbrev aRow (s : Fin 4) (i : Fin 3) : Band := (aM.slice (aRect s i) (fun _ => rfl)).squeeze S64x256 squeezes_S1x64x256_S64x256
/-- Slot `j` of the receive buffer. -/
abbrev vRow (j : Slot) : Band := (vM.slice (vRect j) (fun _ => rfl)).squeeze S64x256 squeezes_S1x64x256_S64x256

/-- Where stream `s` keeps its partial sum after `u` steps: the input's rows, three bands of scratch, the result's rows. -/
def buf (s : Fin 4) : Fin 5 → Band
  | 0 => xRow s
  | 1 => aRow s 0
  | 2 => aRow s 1
  | 3 => aRow s 2
  | 4 => oRow s

/-- What a step reads: the partial sum before it. -/
abbrev src (j : Slot) : Band := buf j.1 j.2.castSucc
/-- What a step writes: the partial sum after it. -/
abbrev dst (j : Slot) : Band := buf j.1 j.2.succ

/-! ## The semaphores -/

theorem inb_s (j : Slot) : ∀ k, (![num j] : Fin 1 → ℕ) k + S1.size k ≤ S16.size k := by revert j; decide

/-- The semaphore slot `j`'s send completes on. -/
abbrev sS (j : Slot) : DmaSem sig := ((cc0_scratch2.slice (Rect.unit (s := S16) ![num j] S1.size (inb_s j))).squeeze S_ squeezes_S1_S_).sem
/-- The semaphore slot `j`'s message lands on. -/
abbrev vS (j : Slot) : DmaSem sig := ((cc0_scratch3.slice (Rect.unit (s := S16) ![num j] S1.size (inb_s j))).squeeze S_ squeezes_S1_S_).sem
/-- The runtime's barrier semaphore. -/
abbrev barS : Sem sig := (SemArray.scalar (sig.barrier 0 rfl) : Sems sig S_).sem
/-- The kernel's own semaphore for the second handshake. -/
abbrev lateS : Sem sig := cc0_scratch4.sem

theorem sS_val (j : Slot) : (sS j).val = 2 + num j := by revert j; decide
theorem vS_val (j : Slot) : (vS j).val = 18 + num j := by revert j; decide

/-! ## Partners -/

/-- The bit of the device number that a direction flips. -/
def mask : Fin 4 → ℕ := ![2, 4, 1, 8]

theorem par_lt (k : Fin 4) (c : Dev nD) : c.val ^^^ mask k < nD := by revert k c; decide

/-- Device `c`'s partner in direction `k`. -/
def par (k : Fin 4) (c : Dev nD) : Dev nD := ⟨c.val ^^^ mask k, par_lt k c⟩

/-- A partner's partner is the device itself. -/
theorem par_par (k : Fin 4) (c : Dev nD) : par k (par k c) = c := by revert k c; decide

/-- The direction of a slot's message: the first two streams and the last two go through the cube in two orders. -/
def dir (j : Slot) : Fin 4 := (![![0, 2, 1, 3], ![0, 2, 1, 3], ![1, 3, 0, 2], ![1, 3, 0, 2]] : Fin 4 → Fin 4 → Fin 4) j.1 j.2

/-- The device that slot `j`'s message goes to, and that it comes from. -/
abbrev peer (j : Slot) (c : Dev nD) : Dev nD := par (dir j) c

/-- The partner as the text computes it from the device number, at each of its sixteen sends. -/
def rawPeer (c : Dev nD) : Slot → Dev nD
  | (0, 0) => ⟨k0_dev7 c, k0_dev7_lt c⟩ | (1, 0) => ⟨k0_dev8 c, k0_dev8_lt c⟩ | (2, 0) => ⟨k0_dev5 c, k0_dev5_lt c⟩ | (3, 0) => ⟨k0_dev6 c, k0_dev6_lt c⟩
  | (0, 1) => ⟨k0_dev11 c, k0_dev11_lt c⟩ | (1, 1) => ⟨k0_dev12 c, k0_dev12_lt c⟩ | (2, 1) => ⟨k0_dev9 c, k0_dev9_lt c⟩ | (3, 1) => ⟨k0_dev10 c, k0_dev10_lt c⟩
  | (0, 2) => ⟨k0_dev15 c, k0_dev15_lt c⟩ | (1, 2) => ⟨k0_dev16 c, k0_dev16_lt c⟩ | (2, 2) => ⟨k0_dev13 c, k0_dev13_lt c⟩ | (3, 2) => ⟨k0_dev14 c, k0_dev14_lt c⟩
  | (0, 3) => ⟨k0_dev17 c, k0_dev17_lt c⟩ | (1, 3) => ⟨k0_dev18 c, k0_dev18_lt c⟩ | (2, 3) => ⟨k0_dev19 c, k0_dev19_lt c⟩ | (3, 3) => ⟨k0_dev20 c, k0_dev20_lt c⟩

/-- The computed partner is the one across the slot's direction. -/
theorem rawPeer_eq : ∀ (c : Dev nD) (j : Slot), rawPeer c j = peer j c := by decide +kernel

/-- The partner as the text computes it at each of its four handshake signals. -/
def rawSig (c : Dev nD) : Fin 4 → Dev nD
  | 0 => ⟨k0_dev1 c, k0_dev1_lt c⟩ | 1 => ⟨k0_dev2 c, k0_dev2_lt c⟩ | 2 => ⟨k0_dev3 c, k0_dev3_lt c⟩ | 3 => ⟨k0_dev4 c, k0_dev4_lt c⟩

theorem rawSig_eq : ∀ (c : Dev nD) (k : Fin 4), rawSig c k = par k c := by decide +kernel

/-! ## The body -/

/-- The body's programs. -/
abbrev KProg (F : FTy → Type) [FloatOps F] := Prog (TpuEff nD τ sig (Elt F) Λ₀ .tc) PUnit

/-- A band as loaded plus a slot's band as loaded. -/
def addRows (a : Vec F S64x256 .f32) (b : Vec F S1x64x256 .f32) : FVec F S64x256 .f32 :=
  addf a (shapeCast S64x256 b shapeCasts_S1x64x256_S64x256)

theorem buf_wordExact (s : Fin 4) (u : Fin 5) : (buf s u).view.WordExact := by
  fin_cases u <;> first | exact (View.wordExact_bits rfl).reshape _ _ | exact View.wordExact_bits rfl
theorem vRow_wordExact (j : Slot) : (vRow j).view.WordExact := (View.wordExact_bits rfl).reshape _ _

/-- The rectangle of a whole band. -/
abbrev bandR : Rect S64x256 := Rect.unit (s := S64x256) ![0, 0] S64x256.size inb_S64x256_S64x256_0_0

/-- Send slot `j`'s message. -/
abbrev sendOp (c : Dev nD) (j : Slot) (k : KProg F) : KProg F :=
  .op (.enqueueDma (src j) (.remote (Dev.tc (rawPeer c j)) (vRow j) (.dma (sS j))) (.dma (vS j)) (buf_wordExact _ _) (vRow_wordExact j) ⟨⟨rfl, Or.inl rfl⟩, trivial⟩) fun _ => k

/-- Take slot `j`'s message in: wait for it, add it to the partial sum, and write the sum to the next band. -/
abbrev takeOp (j : Slot) (k : KProg F) : KProg F :=
  .op (.waitDma2 (vS j) (src j) (vRow j) (buf_wordExact _ _) (vRow_wordExact j)) fun _ =>
  .op (.load (src j) bandR.toLoadRect (View.loadsAt_vmem h_S64x256)) fun a =>
  .op (.load vM (vRect j).toLoadRect (View.loadsAt_vmem h_S1x64x256)) fun b =>
  .op (.load (dst j) bandR.toLoadRect (View.loadsAt_vmem h_S64x256)) fun _ =>
  .op (.store (dst j) bandR (addRows a b) Finset.univ (View.stores_vmem_bits_univ h_S64x256 rfl) (.inl rfl)) fun _ => k

/-- Wait until slot `j`'s send has left its source. -/
abbrev leaveOp (j : Slot) (k : KProg F) : KProg F :=
  .op (.waitDma2 (sS j) (vRow j) (src j) (vRow_wordExact j) (buf_wordExact _ _)) fun _ => k

/-- One action on a slot: send its message, take it in, or wait until its send has left. -/
inductive Act where
  | send (j : Slot)
  | take (j : Slot)
  | leave (j : Slot)

/-- An action's text. -/
abbrev act (c : Dev nD) : Act → KProg F → KProg F
  | .send j, k => sendOp c j k
  | .take j, k => takeOp j k
  | .leave j, k => leaveOp j k

/-- The text of a list of actions, followed by `k`. -/
def run (c : Dev nD) : List Act → KProg F → KProg F
  | [], k => k
  | a :: l, k => act c a (run c l k)

/-- The actions between the two handshakes: the four first messages. -/
def acts₁ : List Act := [.send (2, 0), .send (3, 0), .send (0, 0), .send (1, 0)]

/-- The actions after the second handshake. -/
def acts₂ : List Act :=
  [.take (2, 0), .send (2, 1), .take (3, 0), .send (3, 1), .take (0, 0), .send (0, 1), .take (1, 0), .send (1, 1),
   .take (2, 1), .send (2, 2), .take (3, 1), .send (3, 2), .take (0, 1), .send (0, 2), .take (1, 1), .send (1, 2),
   .take (0, 2), .send (0, 3), .take (1, 2), .send (1, 3), .take (2, 2), .send (2, 3), .take (3, 2), .send (3, 3),
   .take (0, 3), .take (1, 3), .take (2, 3), .take (3, 3),
   .leave (2, 0), .leave (3, 0), .leave (0, 0), .leave (1, 0), .leave (2, 1), .leave (3, 1), .leave (0, 1), .leave (1, 1),
   .leave (2, 2), .leave (3, 2), .leave (0, 2), .leave (1, 2), .leave (0, 3), .leave (1, 3), .leave (2, 3), .leave (3, 3)]

/-- The body: the signals of both handshakes, the wait of the first, four messages, the wait of the second, the rest. -/
def kbody (c : Dev nD) : KProg F :=
  .op (.semSignal (rawSig c 0, .tc) barS (1#32).toInt) fun _ =>
  .op (.semSignal (rawSig c 1, .tc) barS (1#32).toInt) fun _ =>
  .op (.semSignal (rawSig c 2, .tc) lateS (1#32).toInt) fun _ =>
  .op (.semSignal (rawSig c 3, .tc) lateS (1#32).toInt) fun _ =>
  .op (.semWait barS (2#32).toInt) fun _ =>
  run c acts₁ <| .op (.semWait lateS (2#32).toInt) fun _ => run c acts₂ (.ret ⟨⟩)

set_option maxRecDepth 65536 in
set_option maxHeartbeats 4000000 in
/-- The printed body reads its device and does what `kbody` says. -/
theorem body_eq :
    cc0_body (F := F) xM (Memref.isWhole_whole _) oM (Memref.isWhole_whole _) aM (Memref.isWhole_whole _) vM (Memref.isWhole_whole _)
      cc0_scratch2 cc0_scratch3 cc0_scratch4 = .op .deviceId fun c => kbody c := by
  simp only [cc0_body_eq_skeleton, cc0_body_skel, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton, k0_part22_eq_skeleton,
    k0_part23_eq_skeleton, k0_part24_eq_skeleton, k0_part25_eq_skeleton, k0_part26_eq_skeleton,
    k0_part1_skel, k0_part2_skel, k0_part3_skel, k0_part4_skel, k0_part5_skel, k0_part6_skel, k0_part7_skel, k0_part8_skel, k0_part9_skel,
    k0_part10_skel, k0_part11_skel, k0_part12_skel, k0_part13_skel, k0_part14_skel, k0_part15_skel, k0_part16_skel, k0_part17_skel,
    k0_part18_skel, k0_part19_skel, k0_part20_skel, k0_part21_skel, k0_part22_skel, k0_part23_skel, k0_part24_skel, k0_part25_skel, k0_part26_skel,
    k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19, shapeCast_id,
    semSignalWord, semWaitWord, Prog.lift, Prog.bind_op, Prog.bind_ret, Prog.pure_eq_ret, Prog.bind_assoc]
  simp only [kbody, acts₁, acts₂, run, act]
  rfl

end Cert.KernelIdeal.Cube

end
-- ==== Proof.KernelIdeal.Sched.lean ====
/- The protocol. Sixteen devices sit at the corners of a cube of four directions; a device has a partner across each. Every cell
   (a semaphore of a device) is used for one round. The two handshake cells have two duties, one paid by each of the two partners
   that signal it, and what a signal hands over is the four receive slots of the signaller that the signalled device will write.
   A send cell has one duty, paid by the device's own transfer: the half share of the source it read. A receive cell has one
   duty, paid by the partner's transfer: the slot, holding the partner's partial sum. -/
module

public import proofs.«01_k».proof.Proof.KernelIdeal.Plan
public import Mathlib.Data.Fintype.Sum
public import Idealize.ShloMosaic.Lib.Memref
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The partial sums -/

/-- A band's contents. -/
abbrev BandV (F : FTy → Type) : Type := S64x256.Idx → Elt F .f32

/-- The block of the input a device starts with, as the kernel finds it staged. -/
def xstg (c : Dev nD) : (cc0_stg0_0 : Ref sig .tc).ty.Contents (Elt F) :=
  (win0_0.blk (0 : Fin 1)).view.read (Elt F) (m ((c : Thread nD τ).loc main_arg0))

/-- Stream `s`'s partial sum on device `c` after `n` steps: its own rows at first, then each step adds the partner's. -/
def valN (s : Fin 4) : ℕ → Dev nD → BandV F
  | 0, c => (xRow s).view.read (Elt F) (xstg m c)
  | n + 1, c => addf (s := S64x256) (φ := .f32) (valN s n c) (valN s n (peer (s, Fin.ofNat 4 n) c))

/-- The same, the number of steps at most four. -/
abbrev val (s : Fin 4) (u : Fin 5) (c : Dev nD) : BandV F := valN m s u.val c

theorem val_succ (j : Slot) (c : Dev nD) :
    val m j.1 j.2.succ c = addf (s := S64x256) (φ := .f32) (val m j.1 j.2.castSucc c) (val m j.1 j.2.castSucc (peer j c)) := by
  obtain ⟨s, t⟩ := j
  show valN m s (t.val + 1) c = _
  rw [valN, Fin.ofNat_val_eq_self]
  rfl

/-! ## The cells -/

/-- The kernel's own cells: the second handshake's, the sends', the receives'. -/
abbrev OIx := Unit ⊕ (Slot ⊕ Slot)
/-- All of a device's cells: the barrier and the kernel's own. -/
abbrev CIx := Unit ⊕ OIx

abbrev kBar : CIx := .inl ()
abbrev kLate : CIx := .inr (.inl ())
abbrev kSnd (j : Slot) : CIx := .inr (.inr (.inl j))
abbrev kRcv (j : Slot) : CIx := .inr (.inr (.inr j))

/-- The semaphore of each of the kernel's own cells. -/
def osem : OIx → SemLoc sig
  | .inl _ => .reg lateS
  | .inr (.inl j) => .dma (sS j)
  | .inr (.inr j) => .dma (vS j)

/-- The semaphore of each cell. -/
def csem : CIx → SemLoc sig
  | .inl _ => .reg barS
  | .inr k => osem k

/-- Device `c`'s cell `k`. -/
abbrev cell (c : Dev nD) (k : CIx) : GSem nD τ sig := ((c : Thread nD τ), csem k)

/-- The slot of a given number. -/
def slotOf (n : ℕ) : Slot := (Fin.ofNat 4 (n / 4), Fin.ofNat 4 (n % 4))

/-- The cell a semaphore is, if it is one of the protocol's. -/
def kindOf : SemLoc sig → Option CIx
  | .reg i => if i = barS then some kBar else if i = lateS then some kLate else none
  | .dma q => if q.val < 2 then none else if q.val < 18 then some (kSnd (slotOf (q.val - 2))) else some (kRcv (slotOf (q.val - 18)))

instance : DecidableEq (Option CIx) := inferInstance
theorem kindOf_csem (k : CIx) : kindOf (csem k) = some k := by revert k; decide +kernel

theorem csem_injective : Function.Injective csem := fun k k' h => by
  have := kindOf_csem k; rw [h, kindOf_csem] at this; exact (Option.some.inj this).symm

/-! ## The schedule -/

/-- The amount one message credits. -/
abbrev N : ℕ := (vRow (0, 0)).view.dmaCredit
theorem N_pos : 0 < N := View.dmaCredit_pos _ (by decide)

/-- Slot `j` of device `d`'s receive buffer, at whatever contents. -/
def land (d : Dev nD) (j : Slot) : sProp 𝕄 := iprop(∃ X, owns (d : Thread nD τ) (vRow j) fullShare X)

omit [FloatOps F] in
instance land_storable (d : Dev nD) (j : Slot) : BI.Storable (upEmb : UEmb _ 𝕄) (land (F := F) d j) := by unfold land; infer_instance

/-- The four slots of each direction. -/
def slotAt (k i : Fin 4) : Slot :=
  (![![(0, 0), (1, 0), (2, 2), (3, 2)], ![(2, 0), (3, 0), (0, 2), (1, 2)], ![(0, 1), (1, 1), (2, 3), (3, 3)], ![(2, 1), (3, 1), (0, 3), (1, 3)]]
    : Fin 4 → Fin 4 → Slot) k i

theorem dir_slotAt : ∀ k i, dir (slotAt k i) = k := by decide

/-- The slots, by direction. -/
def slotEquiv : Fin 4 × Fin 4 ≃ Slot := Equiv.ofBijective (fun p => slotAt p.1 p.2) (by decide)

/-- What the partner across direction `k` hands device `d`: its four slots that `d` will write. -/
def give (k : Fin 4) (d : Dev nD) : sProp 𝕄 := bigSep Finset.univ fun i : Fin 4 => land (par k d) (slotAt k i)

omit [FloatOps F] in
instance give_storable (k : Fin 4) (d : Dev nD) : BI.Storable (upEmb : UEmb _ 𝕄) (give (F := F) k d) := by unfold give; infer_instance

/-- A cell's duties. -/
def duesOf : CIx → Finset Bool
  | .inl _ => Finset.univ
  | .inr (.inl _) => Finset.univ
  | .inr (.inr _) => {false}

/-- A duty's amount. -/
def amt : CIx → ℕ
  | .inl _ => 1
  | .inr (.inl _) => 1
  | .inr (.inr _) => N

theorem amt_pos (k : CIx) : 0 < amt k := by
  rcases k with _ | _ | _
  · exact Nat.one_pos
  · exact Nat.one_pos
  · exact N_pos

/-- What a duty hands over. -/
def pay (d : Dev nD) : CIx → Bool → sProp 𝕄
  | .inl _, b => give (bif b then 1 else 0) d
  | .inr (.inl _), b => give (bif b then 3 else 2) d
  | .inr (.inr (.inl j)), _ => owns (d : Thread nD τ) (src j) fullShare.left (val m j.1 j.2.castSucc d)
  | .inr (.inr (.inr j)), _ => owns (d : Thread nD τ) (vRow j) fullShare (val m j.1 j.2.castSucc (peer j d))

instance pay_storable (d : Dev nD) (k : CIx) (b : Bool) : BI.Storable (upEmb : UEmb _ 𝕄) (pay m d k b) := by
  rcases k with _ | _ | _ | _ <;> unfold pay <;> infer_instance

/-- The schedule: every cell one round. -/
def Rd : Rounds.Schedule (GSem nD τ sig) Bool 𝕄 where
  duties g r := if g.1.2 = .tc ∧ r = 0 then (kindOf g.2).elim ∅ duesOf else ∅
  unitless _ := False
  amount g _ _ := (kindOf g.2).elim 1 amt
  payload g _ b := (kindOf g.2).elim iprop(emp) fun k => pay m g.1.1 k b
  amount_pos g _ _ _ := by
    cases h : kindOf g.2 with
    | none => exact Nat.one_pos
    | some k => exact amt_pos k

instance Rd_payload_storable (g : GSem nD τ sig) (r : ℕ) (b : Bool) : BI.Storable (upEmb : UEmb _ 𝕄) ((Rd m).payload g r b) := by
  show BI.Storable upEmb ((kindOf g.2).elim iprop(emp) fun k => pay m g.1.1 k b)
  cases kindOf g.2 with
  | none => show BI.Storable upEmb iprop(emp); infer_instance
  | some k => show BI.Storable upEmb (pay m g.1.1 k b); infer_instance

theorem duties_cell (c : Dev nD) (k : CIx) : (Rd m).duties (cell c k) 0 = duesOf k := by
  dsimp only [Rd]; rw [if_pos ⟨rfl, rfl⟩, kindOf_csem]; rfl
theorem duties_later (g : GSem nD τ sig) : ∀ r, 1 ≤ r → (Rd m).duties g r = ∅ :=
  fun r hr => by dsimp only [Rd]; exact if_neg fun h => by have := h.2; omega
theorem amount_cell (c : Dev nD) (k : CIx) (b : Bool) : (Rd m).amount (cell c k) 0 b = amt k := by
  dsimp only [Rd]; rw [kindOf_csem]; rfl
theorem payload_cell (c : Dev nD) (k : CIx) (b : Bool) : (Rd m).payload (cell c k) 0 b = pay m c k b := by
  dsimp only [Rd]; rw [kindOf_csem]; rfl
theorem expect_cell (c : Dev nD) (k : CIx) : (Rd m).expect (cell c k) 0 = (duesOf k).card * amt k := by
  unfold Schedule.expect Schedule.amountOf
  rw [duties_cell, Finset.sum_congr rfl fun b _ => amount_cell m c k b, Finset.sum_const, smul_eq_mul]

/-- What a wait on a cell brings: what all its duties hand over. -/
theorem rest_cell (c : Dev nD) (k : CIx) :
    bigSep ((Rd m).duties (cell c k) 0 \ ∅) (fun b => (Rd m).payload (cell c k) 0 b) = bigSep (duesOf k) fun b => pay m c k b := by
  rw [Finset.sdiff_empty, duties_cell]
  exact bigSep_congr fun b _ => payload_cell m c k b

/-! ## What is owed -/

/-- A due: the direction of the partner it is owed to, and which of the partner's cells. -/
abbrev Due := Fin 4 × CIx

/-- The cell a due is owed to. -/
abbrev dueCell (c : Dev nD) (p : Due) : GSem nD τ sig := cell (par p.1 c) p.2

/-- What device `c` owes, of a list of dues. -/
def owed (c : Dev nD) : List Due → CellTallies nD τ sig Unit
  | [] => 0
  | p :: l => owed c l + tallyAt (dueCell c p) () (amt p.2)

theorem owed_cons (c : Dev nD) (p : Due) (l : List Due) : owed c (p :: l) = owed c l + tallyAt (dueCell c p) () (amt p.2) := rfl

/-- Whatever is owed is owed to the cell of a due in the list. -/
theorem owed_pos {c : Dev nD} {g : GSem nD τ sig} {u : Unit} : ∀ {l : List Due}, 0 < owed c l g u → ∃ p ∈ l, g = dueCell c p
  | [], h => absurd h (Nat.lt_irrefl 0)
  | p :: l, h => by
    rw [owed_cons, Pi.add_apply, Finsupp.add_apply, tallyAt_apply] at h
    by_cases hp : g = dueCell c p
    · exact ⟨p, List.mem_cons_self, hp⟩
    · rw [if_neg (fun h' => hp h'.1), Nat.add_zero] at h
      obtain ⟨q, hq, e⟩ := owed_pos h
      exact ⟨q, List.mem_cons_of_mem _ hq, e⟩

/-- The send's due. -/
abbrev sendDue (j : Slot) : Due := (dir j, kRcv j)

/-- The slots an action list sends. -/
def sends : List Act → List Slot
  | [] => []
  | .send j :: l => j :: sends l
  | .take _ :: l => sends l
  | .leave _ :: l => sends l

/-- The dues of the four signals. -/
def sigDues : List Due := [(0, kBar), (1, kBar), (2, kLate), (3, kLate)]
/-- The dues of the later messages, -/
def lateDues : List Due := (sends acts₂).map sendDue
/-- of all messages, -/
def msgDues : List Due := (sends acts₁).map sendDue ++ lateDues
/-- and all a device owes at the start. -/
def allDues : List Due := sigDues ++ msgDues

/-- The dependence order of the cells: barrier, second handshake, then the messages by step; a send's own cell and every other below. -/
def level : CIx → ℕ
  | .inl _ => 1
  | .inr (.inl _) => 2
  | .inr (.inr (.inl _)) => 0
  | .inr (.inr (.inr j)) => 3 + j.2.val

def Lx (g : GSem nD τ sig) : Finset Unit := if g.1.2 = .tc then {()} else ∅
def lv (g : GSem nD τ sig) (_ : Unit) : ℕ := (kindOf g.2).elim 0 level

theorem Lx_of_ne (g : GSem nD τ sig) (h : g.1.2 ≠ .tc) : Lx g = ∅ := if_neg h

/-- A device may wait on a semaphore when all its dues are to cells above it. -/
theorem mayWait_of (c : Dev nD) (sm : SemLoc sig) (l : List Due) (h : ∀ p ∈ l, lv ((c : Thread nD τ), sm) () < level p.2) :
    (levAts Lx lv : sProp 𝕄) ⊢ MayWait (c : Thread nD τ) sm () (owed c l) :=
  MayOwe.of_cut (L := Lx) (lev := lv) (lv ((c : Thread nD τ), sm) ())
    (fun p _ => by show () ∈ (if _ then _ else _); rw [if_pos rfl]; exact Finset.mem_singleton_self _)
    (fun g u hg => by obtain ⟨p, _, rfl⟩ := owed_pos hg; show () ∈ (if _ then _ else _); rw [if_pos rfl]; exact Finset.mem_singleton_self _)
    (fun p hp => by rw [Finset.mem_singleton.mp hp])
    (fun g u hg => by
      obtain ⟨p, hp, rfl⟩ := owed_pos hg
      refine lt_of_lt_of_eq (h p hp) ?_
      show _ = (kindOf (csem p.2)).elim 0 level
      rw [kindOf_csem]; rfl)

/-- The same for one of the protocol's own cells. -/
theorem mayWait_cell (c : Dev nD) (k : CIx) (l : List Due) (h : ∀ p ∈ l, level k < level p.2) :
    (levAts Lx lv : sProp 𝕄) ⊢ MayWait (c : Thread nD τ) (csem k) () (owed c l) :=
  mayWait_of c (csem k) l fun p hp => by
    show (kindOf (csem k)).elim 0 level < _
    rw [kindOf_csem]; exact h p hp

end Cert.KernelIdeal.Cube

end
-- ==== Proof.KernelIdeal.Steps.lean ====
/- One action on one slot. A stream's state is a function of how far the stream has come: a counter that goes up by one with each
   action on the stream — `2 t` before message `t` is sent, `2 t + 1` before it is taken in, `8 + t` before the wait for it to
   leave, `12` at the end. The three theorems below take the state at the counter an action needs to the state at the next. -/
module

public import proofs.«01_k».proof.Proof.KernelIdeal.Sched
public import Idealize.ShloMosaic.Lib.VecWindow
public import Idealize.ShloMosaic.Lib.MemrefSat

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

abbrev 𝒱₀ : Variants := Variants.none

/-- That the body's program `p` on device `c` runs to a state of `Q`. -/
abbrev WP (c : Dev nD) (p : KProg F) (Q : PUnit → sProp 𝕄) : sProp 𝕄 :=
  wp frame (wpE (defs₀ (F := F)) 𝒱₀ (c : Thread nD τ) none) Set.univ p Q

/-! ## What every device may use at any time -/

/-- Every cell's invariant, every cell at its first round, and the order of the cells. -/
def records (K : Dev nD × CIx → ℕ) : sProp 𝕄 :=
  iprop((bigSep Finset.univ fun ck : Dev nD × CIx => cellInv ER (Rd m) (K ck) (cell ck.1 ck.2))
    ∗ (bigSep Finset.univ fun ck : Dev nD × CIx => reached ER (cell ck.1 ck.2) 0)
    ∗ levAts Lx lv)

instance records_persistent (K : Dev nD × CIx → ℕ) : BI.Persistent (records m K) := by unfold records; infer_instance

theorem records_inv (K : Dev nD × CIx → ℕ) (c : Dev nD) (k : CIx) : records m K ⊢ cellInv ER (Rd m) (K (c, k)) (cell c k) :=
  sep_elim_left.trans (bigSep_elim (Φ := fun ck : Dev nD × CIx => (cellInv ER (Rd m) (K ck) (cell ck.1 ck.2) : sProp 𝕄)) (Finset.mem_univ (c, k)))
theorem records_reached (K : Dev nD × CIx → ℕ) (c : Dev nD) (k : CIx) : records m K ⊢ reached ER (cell c k) 0 :=
  sep_elim_right.trans (sep_elim_left.trans
    (bigSep_elim (Φ := fun ck : Dev nD × CIx => (reached ER (cell ck.1 ck.2) 0 : sProp 𝕄)) (Finset.mem_univ (c, k))))
theorem records_mayWait (K : Dev nD × CIx → ℕ) (c : Dev nD) (k : CIx) (l : List Due) (h : ∀ p ∈ l, level k < level p.2) :
    records m K ⊢ MayWait (c : Thread nD τ) (csem k) () (owed c l) :=
  sep_elim_right.trans (sep_elim_right.trans (mayWait_cell c k l h))

/-! ## A stream's state -/

/-- How far a slot's send is, at counter `n`: not made, under way, over. -/
def sendPh (t : Fin 4) (n : ℕ) : Fin 3 := if n ≤ 2 * t.val then 0 else if n ≤ 8 + t.val then 1 else 2
/-- Whether a slot's message has been taken in, at counter `n`. -/
def takePh (t : Fin 4) (n : ℕ) : Fin 2 := if n ≤ 2 * t.val + 1 then 0 else 1
/-- How band `u` is held, at counter `n`: not yet written, lent by half to a send, whole. -/
def bandPh (u : Fin 5) (n : ℕ) : Fin 3 := if n < 2 * u.val then 0 else if u.val < 4 ∧ 2 * u.val < n ∧ n ≤ 8 + u.val then 1 else 2

/-- A slot's send cell. -/
def sendSt (c : Dev nD) (j : Slot) : Fin 3 → sProp 𝕄
  | 0 => iprop(dutyTok ER (cell c (kSnd j)) 0 false ∗ dutyTok ER (cell (peer j c) (kRcv j)) 0 false ∗ atPos ER (cell c (kSnd j)) 0 ∅ 0)
  | 1 => iprop(cred (tallyAt (cell c (kSnd j)) () N) ∗ atPos ER (cell c (kSnd j)) 0 ∅ 0)
  | 2 => semVal (cell c (kSnd j)) 0

/-- A slot's receive cell, and the slot once its message is taken in. -/
def takeSt (c : Dev nD) (j : Slot) : Fin 2 → sProp 𝕄
  | 0 => iprop(cred (tallyAt (cell c (kRcv j)) () N) ∗ atPos ER (cell c (kRcv j)) 0 ∅ 0)
  | 1 => iprop(semVal (cell c (kRcv j)) 0 ∗ land c j)

/-- A band. -/
def bandSt (c : Dev nD) (s : Fin 4) (u : Fin 5) : Fin 3 → sProp 𝕄
  | 0 => iprop(∃ X, owns (c : Thread nD τ) (buf s u) fullShare X)
  | 1 => owns (c : Thread nD τ) (buf s u) fullShare.right (val m s u c)
  | 2 => owns (c : Thread nD τ) (buf s u) fullShare (val m s u c)

theorem sendSt_0 (c : Dev nD) (j : Slot) : (sendSt c j 0 : sProp 𝕄)
    = iprop(dutyTok ER (cell c (kSnd j)) 0 false ∗ dutyTok ER (cell (peer j c) (kRcv j)) 0 false ∗ atPos ER (cell c (kSnd j)) 0 ∅ 0) := rfl
theorem sendSt_1 (c : Dev nD) (j : Slot) : (sendSt c j 1 : sProp 𝕄)
    = iprop(cred (tallyAt (cell c (kSnd j)) () N) ∗ atPos ER (cell c (kSnd j)) 0 ∅ 0) := rfl
theorem sendSt_2 (c : Dev nD) (j : Slot) : (sendSt c j 2 : sProp 𝕄) = semVal (cell c (kSnd j)) 0 := rfl
theorem takeSt_0 (c : Dev nD) (j : Slot) : (takeSt c j 0 : sProp 𝕄)
    = iprop(cred (tallyAt (cell c (kRcv j)) () N) ∗ atPos ER (cell c (kRcv j)) 0 ∅ 0) := rfl
theorem takeSt_1 (c : Dev nD) (j : Slot) : (takeSt c j 1 : sProp 𝕄) = iprop(semVal (cell c (kRcv j)) 0 ∗ land c j) := rfl
theorem bandSt_0 (c : Dev nD) (s : Fin 4) (u : Fin 5) : bandSt m c s u 0 = iprop(∃ X, owns (c : Thread nD τ) (buf s u) fullShare X) := rfl
theorem bandSt_1 (c : Dev nD) (s : Fin 4) (u : Fin 5) :
    bandSt m c s u 1 = owns (c : Thread nD τ) (buf s u) fullShare.right (val m s u c) := rfl
theorem bandSt_2 (c : Dev nD) (s : Fin 4) (u : Fin 5) : bandSt m c s u 2 = owns (c : Thread nD τ) (buf s u) fullShare (val m s u c) := rfl

/-- Stream `s` on device `c` at counter `n`. -/
def strm (c : Dev nD) (s : Fin 4) (n : ℕ) : sProp 𝕄 :=
  iprop((bigSep Finset.univ fun t : Fin 4 => sendSt c (s, t) (sendPh t n))
    ∗ (bigSep Finset.univ fun t : Fin 4 => takeSt c (s, t) (takePh t n))
    ∗ (bigSep Finset.univ fun u : Fin 5 => bandSt m c s u (bandPh u n)))

omit [FloatOps F] in
/-- One member of a conjunction taken out and put back, possibly changed, the others the same. -/
theorem bigSep_swap {I : Type} [Fintype I] [DecidableEq I] (Φ Ψ : I → sProp 𝕄) (i : I) (h : ∀ i', i' ≠ i → Φ i' = Ψ i') :
    bigSep Finset.univ Φ ⊢ iprop(Φ i ∗ (Ψ i -∗ bigSep Finset.univ Ψ)) := by
  rw [bigSep_univ_at Φ i, bigSep_univ_at Ψ i, bigSep_congr (s := Finset.univ.erase i) fun i' hi => h i' (Finset.ne_of_mem_erase hi)]
  iintro ⟨H, Hr⟩
  isplitl [H]; · iexact H
  iintro H'
  isplitl [H'] <;> iassumption

omit [FloatOps F] in
/-- Two members taken out and put back. -/
theorem bigSep_swap₂ {I : Type} [Fintype I] [DecidableEq I] (Φ Ψ : I → sProp 𝕄) (i j : I) (hij : j ≠ i) (h : ∀ i', i' ≠ i → i' ≠ j → Φ i' = Ψ i') :
    bigSep Finset.univ Φ ⊢ iprop(Φ i ∗ Φ j ∗ ((Ψ i ∗ Ψ j) -∗ bigSep Finset.univ Ψ)) := by
  have hj : j ∈ Finset.univ.erase i := Finset.mem_erase.mpr ⟨hij, Finset.mem_univ j⟩
  have e : ∀ Φ' : I → sProp 𝕄, bigSep Finset.univ Φ' = iprop(Φ' i ∗ Φ' j ∗ bigSep ((Finset.univ.erase i).erase j) Φ') := fun Φ' => by
    rw [bigSep_univ_at Φ' i, bigSep_erase hj]; rfl
  rw [e Φ, e Ψ, bigSep_congr (s := (Finset.univ.erase i).erase j) fun i' hi =>
    h i' (Finset.ne_of_mem_erase (Finset.mem_of_mem_erase hi)) (Finset.ne_of_mem_erase hi)]
  iintro ⟨H, H', Hr⟩
  isplitl [H]; · iexact H
  isplitl [H']; · iexact H'
  iintro ⟨H, H'⟩
  isplitl [H]; · iexact H
  isplitl [H'] <;> iassumption

/-! ## What the loads and the store see -/

omit [FloatOps F] in
/-- A load of a whole band reads the band. -/
theorem band_read (b : Band) (f : b.view.ty.Contents (Elt F)) : (b.access bandR).read (Elt F) f = b.view.read (Elt F) f :=
  View.readAt_full b.view f inb_S64x256_S64x256_0_0

omit [FloatOps F] in
/-- A store of a whole band is what the band reads afterwards. -/
theorem band_write (b : Band) (f : (b.access bandR).ty.Contents (Elt F)) (w : BandV F) :
    b.view.read (Elt F) ((b.access bandR).write (Elt F) f w Finset.univ) = w :=
  (band_read b _).symm.trans (View.read_write_univ (v := b.access bandR) f w)

omit [FloatOps F] in
/-- A load of a slot through the receive buffer reads the slot. -/
theorem slot_read (j : Slot) (f : (vM : Memref sig .tc .vmem S16x64x256 .f32).view.ty.Contents (Elt F)) :
    shapeCast S64x256 ((vM.access (vRect j)).read (Elt F) f) shapeCasts_S1x64x256_S64x256 = (vRow j).view.read (Elt F) f := rfl

/-! ## The three actions -/

/-- A send of a band that its device owns at contents `X`, to a band of another device that it owns too: half of the first is lent to
    the send, and comes back as the first duty's payload; the second, at `X`, is the second duty's. -/
theorem wp_send_band (Rd : Rounds.Schedule (GSem nD τ sig) Bool 𝕄) [∀ g r b, BI.Storable (upEmb : UEmb _ 𝕄) (Rd.payload g r b)]
    (c d : Dev nD) (b b' : Band) (q q' : DmaSem sig) (κ κ' : ℕ) (n : ℕ) {O₀ : CellTallies nD τ sig Unit} (O : CellTallies nD τ sig Unit)
    (W : Waits sig Unit) (X : BandV F)
    {hsc : b'.view.ref.isScScratch = false} {hb : b.view.WordExact} {hb' : b'.view.WordExact}
    {hsem : DmaTarget.Typed .vmem (.dma q') (.remote (Dev.tc d : Thread nD τ) b' (.dma q) hsc)}
    (hd₁ : false ∈ Rd.duties ((c : Thread nD τ), .dma q) 0) (hd₂ : false ∈ Rd.duties ((d : Thread nD τ), .dma q') 0)
    (hn : b'.view.dmaCredit = n) (hk₁ : Rd.amount ((c : Thread nD τ), .dma q) 0 false = n) (hk₂ : Rd.amount ((d : Thread nD τ), .dma q') 0 false = n)
    (hO : O₀ = O + tallyAt ((d : Thread nD τ), .dma q') () n)
    (hp₁ : owns (c : Thread nD τ) b fullShare.left X ⊢ Rd.payload ((c : Thread nD τ), .dma q) 0 false)
    (hp₂ : owns (d : Thread nD τ) b' fullShare X ⊢ Rd.payload ((d : Thread nD τ), .dma q') 0 false)
    (k : KProg F) (Q : PUnit → sProp 𝕄) :
    iprop(cellInv ER Rd κ ((c : Thread nD τ), .dma q) ∗ cellInv ER Rd κ' ((d : Thread nD τ), .dma q')
        ∗ owns (c : Thread nD τ) b fullShare X ∗ (∃ Y, owns (d : Thread nD τ) b' fullShare Y) ∗ owes (c : Thread nD τ) O₀ W
        ∗ dutyTok ER ((c : Thread nD τ), .dma q) 0 false ∗ reached ER ((c : Thread nD τ), .dma q) 0
        ∗ dutyTok ER ((d : Thread nD τ), .dma q') 0 false ∗ reached ER ((d : Thread nD τ), .dma q') 0)
      ⊢ iprop(((cred (tallyAt ((c : Thread nD τ), SemLoc.dma q) () n) ∗ owns (c : Thread nD τ) b fullShare.right X ∗ owes (c : Thread nD τ) O W) -∗ WP c k Q)
        -∗ WP c (.op (.enqueueDma b (.remote (Dev.tc d) b' (.dma q) hsc) (.dma q') hb hb' hsem) fun _ => k) Q) := by
  iintro ⟨HI1, HI2, Hb, ⟨%Y, Hl⟩, HO, Ht1, Hr1, Ht2, Hr2⟩ Hk
  ihave Hb' := (owns_halves (c : Thread nD τ) b fullShare X).1 $$ Hb
  icases Hb' with ⟨HbL, HbR⟩
  unfold owns
  icases HbL with ⟨%f, %hf, HbL⟩
  icases Hl with ⟨%fd, %hfd, Hl⟩
  iapply (Rounds.wp_send_pointsTo 𝒱₀ ER Rd (c : Thread nD τ) none (κ₁ := κ) (κ₂ := κ') (r₁ := 0) (r₂ := 0) (d₁ := false) (d₂ := false) (fd := fd)
    hd₁ hd₂ () () n hn hk₁ hk₂ O hO (W := W)
    ((owns_intro (c : Thread nD τ) b fullShare.left f).trans (by rw [hf]; exact hp₁))
    ((owns_intro (d : Thread nD τ) b' fullShare _).trans (by rw [View.read_write_univ, hf]; exact hp₂))) $$ [HI1 HI2 Hr1 Hr2 HbL Hl HO Ht1 Ht2]
  · isplitl [HI1]; · iexact HI1
    isplitl [HI2]; · iexact HI2
    isplitl [HbL]; · iexact HbL
    isplitl [Hl]; · iexact Hl
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  isplitl [HbR]; · iexact HbR
  iexact HO

theorem duty_snd (c : Dev nD) (j : Slot) : false ∈ (Rd m).duties (cell c (kSnd j)) 0 :=
  (duties_cell m c (kSnd j)).symm ▸ Finset.mem_singleton_self false
theorem duty_rcv (c : Dev nD) (j : Slot) : false ∈ (Rd m).duties (cell c (kRcv j)) 0 :=
  (duties_cell m c (kRcv j)).symm ▸ Finset.mem_singleton_self false
theorem pay_snd (c : Dev nD) (j : Slot) (b : Bool) :
    pay m c (kSnd j) b = owns (c : Thread nD τ) (src j) fullShare.left (val m j.1 j.2.castSucc c) := rfl
theorem pay_rcv (c : Dev nD) (j : Slot) (b : Bool) :
    pay m c (kRcv j) b = owns (c : Thread nD τ) (vRow j) fullShare (val m j.1 j.2.castSucc (par (dir j) c)) := rfl
theorem rest_snd (c : Dev nD) (j : Slot) :
    bigSep (duesOf (kSnd j)) (fun b => pay m c (kSnd j) b) = owns (c : Thread nD τ) (src j) fullShare.left (val m j.1 j.2.castSucc c) := bigSep_singleton
theorem rest_rcv (c : Dev nD) (j : Slot) :
    bigSep (duesOf (kRcv j)) (fun b => pay m c (kRcv j) b) = owns (c : Thread nD τ) (vRow j) fullShare (val m j.1 j.2.castSucc (par (dir j) c)) :=
  bigSep_singleton
theorem credit_vRow (j : Slot) : (vRow j).view.dmaCredit = N := rfl
theorem credit_buf (s : Fin 4) (u : Fin 5) : (buf s u).view.dmaCredit = N := by fin_cases u <;> rfl

/-- Sending a message: the due for the partner's slot is paid. -/
theorem wp_send_core (K : Dev nD × CIx → ℕ) (c d : Dev nD) (j : Slot) (hd : d = peer j c)
    {hsem : DmaTarget.Typed .vmem (.dma (vS j)) (.remote (Dev.tc d : Thread nD τ) (vRow j) (.dma (sS j)))}
    (l : List Due) (W : Waits sig Unit) (k : KProg F) (Q : PUnit → sProp 𝕄) :
    iprop(records m K ∗ sendSt c j 0 ∗ bandSt m c j.1 j.2.castSucc 2 ∗ land (peer j c) j ∗ owes (c : Thread nD τ) (owed c (sendDue j :: l)) W)
      ⊢ iprop(((sendSt c j 1 ∗ bandSt m c j.1 j.2.castSucc 1 ∗ owes (c : Thread nD τ) (owed c l) W) -∗ WP c k Q)
        -∗ WP c (.op (.enqueueDma (src j) (.remote (Dev.tc d) (vRow j) (.dma (sS j))) (.dma (vS j)) (buf_wordExact _ _) (vRow_wordExact j) hsem) fun _ => k) Q) := by
  subst hd
  rw [sendSt_0, sendSt_1, bandSt_1, bandSt_2]
  unfold land
  iintro ⟨#HR, ⟨Ht1, Ht2, Hat⟩, Hb, Hl, HO⟩ Hk
  ihave HI1 := (records_inv m K c (kSnd j)) $$ HR
  ihave HI2 := (records_inv m K (peer j c) (kRcv j)) $$ HR
  ihave Hr1 := (records_reached m K c (kSnd j)) $$ HR
  ihave Hr2 := (records_reached m K (peer j c) (kRcv j)) $$ HR
  iapply (wp_send_band (Rd m) c (peer j c) (src j) (vRow j) (sS j) (vS j) (K (c, kSnd j)) (K (peer j c, kRcv j)) N (owed c l) W (val m j.1 j.2.castSucc c)
    (duty_snd m c j) (duty_rcv m (peer j c) j)
    (credit_vRow j) (amount_cell m c (kSnd j) false) (amount_cell m (peer j c) (kRcv j) false) (owed_cons c (sendDue j) l)
    (Entails.of_eq (payload_cell m c (kSnd j) false).symm)
    (Entails.of_eq ((payload_cell m (peer j c) (kRcv j) false).trans (by rw [pay_rcv, par_par])).symm)) $$ [HI1 HI2 Hr1 Hr2 Hb Hl HO Ht1 Ht2]
  · isplitl [HI1]; · iexact HI1
    isplitl [HI2]; · iexact HI2
    isplitl [Hb]; · iexact Hb
    isplitl [Hl]; · iexact Hl
    isplitl [HO]; · iexact HO
    isplitl [Ht1]; · iexact Ht1
    isplitl [Hr1]; · iexact Hr1
    isplitl [Ht2]; · iexact Ht2
    iexact Hr2
  iintro ⟨Hc, HbR, HO⟩
  iapply Hk
  isplitl [Hc Hat]
  · isplitl [Hc]; · iexact Hc
    iexact Hat
  isplitl [HbR]; · iexact HbR
  iexact HO

/-- A wait on the whole of one of the protocol's cells, when all that is still owed is owed to cells above it. -/
theorem wp_cell_wait (K : Dev nD × CIx → ℕ) (c : Dev nD) (k : CIx) (O : CellTallies nD τ sig Unit) (W : Waits sig Unit) (n n' : ℕ)
    (hn : n = (duesOf k).card * amt k) (e : n' = n) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem k) n' K)
    (p : KProg F) (Q : PUnit → sProp 𝕄) :
    iprop(records m K ∗ cred (tallyAt (cell c k) () n) ∗ atPos ER (cell c k) 0 ∅ 0 ∗ owes (c : Thread nD τ) O W ∗ MayWait (c : Thread nD τ) (csem k) () O)
      ⊢ iprop(((owes (c : Thread nD τ) O (insert (csem k, ()) W) ∗ atPos ER (cell c k) (0 + 1) ∅ 0 ∗ bigSep (duesOf k) fun b => pay m c k b) -∗ WP c p Q)
        -∗ WP c (.op w fun _ => p) Q) := by
  subst e
  iintro ⟨#HR, Hc, Hat, HO, HM⟩ Hk
  ihave HI := (records_inv m K c k) $$ HR
  iapply (Rounds.wp_wait_rest_token 𝒱₀ ER (Rd m) (c : Thread nD τ) none (κ := K (c, k)) hw (Set.mem_univ _) () (O := O) (W := W) (R := 0) (m := 0) (T := ∅)
      (by rw [Nat.zero_add, hn, expect_cell])) $$ [HI Hc HO HM Hat]
  · isplitl [HI]; · iexact HI
    isplitl [Hc]; · iexact Hc
    isplitl [HO]; · iexact HO
    isplitl [HM]; · iexact HM
    iexact Hat
  iintro ⟨HO, Hat, -, Hpay⟩
  iapply Hk
  isplitl [HO]; · iexact HO
  isplitl [Hat]; · iexact Hat
  iapply (Entails.of_eq (rest_cell m c k)); iexact Hpay

/-- A waited-for cell gives its semaphore back at zero. -/
theorem close_cell (K : Dev nD × CIx → ℕ) (c : Dev nD) (k : CIx) :
    iprop(records m K ∗ atPos ER (cell c k) (0 + 1) ∅ 0) ⊢ iprop(|={Set.univ}=> semVal (cell c k) 0) := by
  iintro ⟨#HR, Hat⟩
  ihave HI := (records_inv m K c k) $$ HR
  iapply (Rounds.cell_close ER (Rd m) (Set.mem_univ (K (c, k))) (fun h => h) (R := 0 + 1) (duties_later m (cell c k)))
  isplitl [HI]; · iexact HI
  iexact Hat

/-- A load of a band that is owned gives its contents. -/
theorem wp_load_band (c : Dev nD) (b : Band) (q : PosShare TreeShare) (X : BandV F) {h : (b : Memref sig .tc .vmem S64x256 .f32).view.LoadsAt bandR.toLoadRect}
    (k : BandV F → KProg F) (Q : PUnit → sProp 𝕄) :
    owns (c : Thread nD τ) b q X ⊢ iprop((owns (c : Thread nD τ) b q X -∗ WP c (k X) Q) -∗ WP c (.op (.load b bandR.toLoadRect h) k) Q) := by
  unfold owns
  iintro ⟨%f, %hf, H⟩ Hk
  iapply (wp_load_rect 𝒱₀ (c : Thread nD τ) none Set.univ (m := b) (r := bandR) (View.set_slice_subset _ _)) $$ H
  iintro H
  rw [band_read, hf]
  iapply Hk
  iexists f; isplitr; · ipureintro; exact hf
  iexact H

/-- A store of a band that is owned gives it the stored contents. -/
theorem wp_store_band (c : Dev nD) (b : Band) (X Y : BandV F) {h : (b.access bandR).Stores Finset.univ} {h'}
    (k : KProg F) (Q : PUnit → sProp 𝕄) :
    owns (c : Thread nD τ) b fullShare X
      ⊢ iprop((owns (c : Thread nD τ) b fullShare Y -∗ WP c k Q) -∗ WP c (.op (.store b bandR Y Finset.univ h h') fun _ => k) Q) := by
  unfold owns
  iintro ⟨%f, %hf, H⟩ Hk
  iapply (wp_store 𝒱₀ (c : Thread nD τ) none Set.univ (m := b) (r := bandR) (w := Y) (Mk := Finset.univ)
    (by rw [View.setOn_univ]; exact View.set_slice_subset _ _)) $$ H
  iintro H
  iapply Hk
  iexists ((b.access bandR).write (Elt F) f Y Finset.univ); isplitr; · ipureintro; exact band_write b f Y
  iexact H

/-- A load of a slot that is owned gives its contents, at the loaded shape. -/
theorem wp_load_slot (c : Dev nD) (j : Slot) (X : BandV F) {h : (vM : Memref sig .tc .vmem S16x64x256 .f32).view.LoadsAt (vRect j).toLoadRect}
    (k : Vec F S1x64x256 .f32 → KProg F) (Q : PUnit → sProp 𝕄) :
    owns (c : Thread nD τ) (vRow j) fullShare X
      ⊢ iprop((∀ e : Vec F S1x64x256 .f32, ⌜shapeCast S64x256 e shapeCasts_S1x64x256_S64x256 = X⌝ -∗ owns (c : Thread nD τ) (vRow j) fullShare X -∗ WP c (k e) Q)
        -∗ WP c (.op (.load vM (vRect j).toLoadRect h) k) Q) := by
  unfold owns
  iintro ⟨%f, %hf, H⟩ Hk
  iapply (wp_load_rect 𝒱₀ (c : Thread nD τ) none Set.univ (m := vM) (r := vRect j) (View.set_reshape _ _).ge) $$ H
  iintro H
  iapply Hk
  · ipureintro; exact (slot_read j f).trans hf
  iexists f; isplitr; · ipureintro; exact hf
  iexact H

/-- Adding a slot's band to a band and writing the sum to a third. -/
theorem wp_add_band (c : Dev nD) (b b' : Band) (j : Slot) (X Y : BandV F) (k : KProg F) (Q : PUnit → sProp 𝕄) :
    iprop(owns (c : Thread nD τ) b fullShare.right X ∗ owns (c : Thread nD τ) (vRow j) fullShare Y ∗ (∃ Z, owns (c : Thread nD τ) b' fullShare Z))
      ⊢ iprop(((owns (c : Thread nD τ) b fullShare.right X ∗ owns (c : Thread nD τ) (vRow j) fullShare Y
            ∗ owns (c : Thread nD τ) b' fullShare (addf (s := S64x256) (φ := .f32) X Y)) -∗ WP c k Q)
        -∗ WP c
          (.op (.load b bandR.toLoadRect (View.loadsAt_vmem h_S64x256)) fun a =>
           .op (.load vM (vRect j).toLoadRect (View.loadsAt_vmem h_S1x64x256)) fun e =>
           .op (.load b' bandR.toLoadRect (View.loadsAt_vmem h_S64x256)) fun _ =>
           .op (.store b' bandR (addRows a e) Finset.univ (View.stores_vmem_bits_univ h_S64x256 rfl) (.inl rfl)) fun _ => k) Q) := by
  iintro ⟨Hb, Hv, ⟨%Z, Ho⟩⟩ Hk
  iapply (wp_load_band c b fullShare.right X) $$ Hb
  iintro Hb
  iapply (wp_load_slot c j Y) $$ Hv
  iintro %e %he Hv
  iapply (wp_load_band c b' fullShare Z) $$ Ho
  iintro Ho
  iapply (wp_store_band c b' Z (addRows X e)) $$ Ho
  iintro Ho
  iapply Hk
  isplitl [Hb]; · iexact Hb
  isplitl [Hv]; · iexact Hv
  unfold addRows
  rw [he]
  iexact Ho

/-- Taking a message in. -/
theorem wp_take_core (K : Dev nD × CIx → ℕ) (c : Dev nD) (j : Slot) (l : List Due) (hl : ∀ p ∈ l, level (kRcv j) < level p.2)
    (W : Waits sig Unit) (k : KProg F) (Q : PUnit → sProp 𝕄) :
    iprop(records m K ∗ takeSt c j 0 ∗ bandSt m c j.1 j.2.castSucc 1 ∗ bandSt m c j.1 j.2.succ 0 ∗ owes (c : Thread nD τ) (owed c l) W)
      ⊢ iprop((∀ W', (takeSt c j 1 ∗ bandSt m c j.1 j.2.castSucc 1 ∗ bandSt m c j.1 j.2.succ 2 ∗ owes (c : Thread nD τ) (owed c l) W') -∗ WP c k Q)
        -∗ WP c (takeOp j k) Q) := by
  rw [takeSt_0, takeSt_1, bandSt_1, bandSt_0, bandSt_2]
  iintro ⟨#HR, ⟨Hc, Hat⟩, Hb, Ho, HO⟩ Hk
  ihave HM := (records_mayWait m K c (kRcv j) l hl) $$ HR
  iapply (wp_cell_wait m K c (kRcv j) (owed c l) W N _ (Nat.one_mul N).symm (credit_vRow j)
    (wpE_waitDma2_eq 𝒱₀ (c : Thread nD τ) none Set.univ)) $$ [HM HO Hc Hat]
  · isplitr; · iexact HR
    isplitl [Hc]; · iexact Hc
    isplitl [Hat]; · iexact Hat
    isplitl [HO]; · iexact HO
    iexact HM
  iintro ⟨HO, Hat, Hp⟩
  ihave Hp := (Entails.of_eq (rest_rcv m c j)) $$ Hp
  imod (close_cell m K c (kRcv j)) $$ [Hat] with Hz
  · isplitr; · iexact HR
    iexact Hat
  iapply (wp_add_band c (src j) (dst j) j (val m j.1 j.2.castSucc c) (val m j.1 j.2.castSucc (peer j c))) $$ [Hb Ho Hp]
  · isplitl [Hb]; · iexact Hb
    isplitl [Hp]; · iexact Hp
    iexact Ho
  iintro ⟨Hb, Hv, Ho⟩
  iapply Hk
  isplitl [Hz Hv]
  · isplitl [Hz]; · iexact Hz
    unfold land
    iexists _; iexact Hv
  isplitl [Hb]; · iexact Hb
  isplitl [Ho]
  · rw [val_succ]; iexact Ho
  iexact HO

/-- Waiting for a send to leave: the half of the band that it held comes back. -/
theorem wp_leave_core (K : Dev nD × CIx → ℕ) (c : Dev nD) (j : Slot) (W : Waits sig Unit) (k : KProg F) (Q : PUnit → sProp 𝕄) :
    iprop(records m K ∗ sendSt c j 1 ∗ bandSt m c j.1 j.2.castSucc 1 ∗ owes (c : Thread nD τ) (owed c []) W)
      ⊢ iprop((∀ W', (sendSt c j 2 ∗ bandSt m c j.1 j.2.castSucc 2 ∗ owes (c : Thread nD τ) (owed c []) W') -∗ WP c k Q)
        -∗ WP c (leaveOp j k) Q) := by
  rw [sendSt_1, sendSt_2, bandSt_1, bandSt_2]
  iintro ⟨#HR, ⟨Hc, Hat⟩, Hb, HO⟩ Hk
  ihave HM := (records_mayWait m K c (kSnd j) [] (fun _ h => absurd h List.not_mem_nil)) $$ HR
  iapply (wp_cell_wait m K c (kSnd j) (owed c []) W N _ (Nat.one_mul N).symm (credit_buf _ _)
    (wpE_waitDma2_eq 𝒱₀ (c : Thread nD τ) none Set.univ)) $$ [HM HO Hc Hat]
  · isplitr; · iexact HR
    isplitl [Hc]; · iexact Hc
    isplitl [Hat]; · iexact Hat
    isplitl [HO]; · iexact HO
    iexact HM
  iintro ⟨HO, Hat, Hp⟩
  ihave Hp := (Entails.of_eq (rest_snd m c j)) $$ Hp
  imod (close_cell m K c (kSnd j)) $$ [Hat] with Hz
  · isplitr; · iexact HR
    iexact Hat
  iapply Hk
  isplitl [Hz]; · iexact Hz
  isplitl [Hb Hp]
  · iapply (owns_halves (c : Thread nD τ) (buf j.1 j.2.castSucc) fullShare (val m j.1 j.2.castSucc c)).2
    isplitl [Hp]; · iexact Hp
    iexact Hb
  iexact HO

/-! ## The same on a stream -/

/-- Sending slot `j`'s message. -/
theorem wp_send_slot (K : Dev nD × CIx → ℕ) (c : Dev nD) (j : Slot) (l : List Due) (W : Waits sig Unit) (k : KProg F) (Q : PUnit → sProp 𝕄) :
    iprop(records m K ∗ strm m c j.1 (2 * j.2.val) ∗ land (peer j c) j ∗ owes (c : Thread nD τ) (owed c (sendDue j :: l)) W)
      ⊢ iprop(((strm m c j.1 (2 * j.2.val + 1) ∗ owes (c : Thread nD τ) (owed c l) W) -∗ WP c k Q) -∗ WP c (sendOp c j k) Q) := by
  obtain ⟨s, t⟩ := j
  have hs : ∀ t', t' ≠ t → sendPh t' (2 * t.val) = sendPh t' (2 * t.val + 1) := by revert t; decide
  have hr : ∀ t', takePh t' (2 * t.val) = takePh t' (2 * t.val + 1) := by revert t; decide
  have hb : ∀ u, u ≠ t.castSucc → bandPh u (2 * t.val) = bandPh u (2 * t.val + 1) := by revert t; decide
  have e1 : sendPh t (2 * t.val) = 0 := by revert t; decide
  have e2 : sendPh t (2 * t.val + 1) = 1 := by revert t; decide
  have e3 : bandPh t.castSucc (2 * t.val) = 2 := by revert t; decide
  have e4 : bandPh t.castSucc (2 * t.val + 1) = 1 := by revert t; decide
  unfold strm
  iintro ⟨#HR, ⟨HS, HT, HB⟩, Hl, HO⟩ Hk
  ihave HS' := (bigSep_swap (fun t' : Fin 4 => sendSt c (s, t') (sendPh t' (2 * t.val))) (fun t' => sendSt c (s, t') (sendPh t' (2 * t.val + 1))) t
    (fun t' h => by rw [hs t' h])) $$ HS
  icases HS' with ⟨Ht, HS⟩
  ihave HB' := (bigSep_swap (fun u : Fin 5 => bandSt m c s u (bandPh u (2 * t.val))) (fun u => bandSt m c s u (bandPh u (2 * t.val + 1))) t.castSucc
    (fun u h => by rw [hb u h])) $$ HB
  icases HB' with ⟨Hb, HB⟩
  ihave HT' := (Entails.of_eq (bigSep_congr (s := Finset.univ) fun t' (_ : t' ∈ Finset.univ) => congrArg (takeSt c (s, t')) (hr t'))) $$ HT
  rw [e1, e2, e3, e4]
  iapply (wp_send_core m K c (rawPeer c (s, t)) (s, t) (rawPeer_eq c (s, t)) l W) $$ [Ht Hb Hl HO]
  · isplitr; · iexact HR
    isplitl [Ht]; · iexact Ht
    isplitl [Hb]; · iexact Hb
    isplitl [Hl]; · iexact Hl
    iexact HO
  iintro ⟨Ht, Hb, HO⟩
  iapply Hk
  isplitr [HO]
  · isplitl [HS Ht]
    · iapply HS; iexact Ht
    isplitl [HT']; · iexact HT'
    iapply HB; iexact Hb
  iexact HO

/-- What taking message `t` in changes of the phases. -/
theorem phases_take : ∀ t : Fin 4,
    (∀ t', sendPh t' (2 * t.val + 1) = sendPh t' (2 * t.val + 2))
      ∧ (∀ t', t' ≠ t → takePh t' (2 * t.val + 1) = takePh t' (2 * t.val + 2))
      ∧ (∀ u, u ≠ t.castSucc → u ≠ t.succ → bandPh u (2 * t.val + 1) = bandPh u (2 * t.val + 2))
      ∧ (takePh t (2 * t.val + 1) = 0)
      ∧ (takePh t (2 * t.val + 2) = 1)
      ∧ (bandPh t.castSucc (2 * t.val + 1) = 1)
      ∧ (bandPh t.castSucc (2 * t.val + 2) = 1)
      ∧ (bandPh t.succ (2 * t.val + 1) = 0)
      ∧ (bandPh t.succ (2 * t.val + 2) = 2)
      ∧ (t.succ ≠ t.castSucc) := by decide

/-- Taking slot `j`'s message in. -/
theorem wp_take_slot (K : Dev nD × CIx → ℕ) (c : Dev nD) (j : Slot) (l : List Due) (hl : ∀ p ∈ l, level (kRcv j) < level p.2)
    (W : Waits sig Unit) (k : KProg F) (Q : PUnit → sProp 𝕄) :
    iprop(records m K ∗ strm m c j.1 (2 * j.2.val + 1) ∗ owes (c : Thread nD τ) (owed c l) W)
      ⊢ iprop((∀ W', (strm m c j.1 (2 * j.2.val + 2) ∗ owes (c : Thread nD τ) (owed c l) W') -∗ WP c k Q) -∗ WP c (takeOp j k) Q) := by
  obtain ⟨s, t⟩ := j
  obtain ⟨hs, hr, hb, e1, e2, e3, e4, e5, e6, e7⟩ := phases_take t
  unfold strm
  iintro ⟨#HR, ⟨HS, HT, HB⟩, HO⟩ Hk
  ihave HT' := (bigSep_swap (fun t' : Fin 4 => takeSt c (s, t') (takePh t' (2 * t.val + 1))) (fun t' => takeSt c (s, t') (takePh t' (2 * t.val + 2))) t
    (fun t' h => by rw [hr t' h])) $$ HT
  icases HT' with ⟨Ht, HT⟩
  ihave HB' := (bigSep_swap₂ (fun u : Fin 5 => bandSt m c s u (bandPh u (2 * t.val + 1))) (fun u => bandSt m c s u (bandPh u (2 * t.val + 2))) t.castSucc t.succ
    e7 (fun u h h' => by rw [hb u h h'])) $$ HB
  icases HB' with ⟨Hb, Hd, HB⟩
  ihave HS' := (Entails.of_eq (bigSep_congr (s := Finset.univ) fun t' (_ : t' ∈ Finset.univ) => congrArg (sendSt c (s, t')) (hs t'))) $$ HS
  rw [e1, e2, e3, e4, e5, e6]
  iapply (wp_take_core m K c (s, t) l hl W) $$ [Ht Hb Hd HO]
  · isplitr; · iexact HR
    isplitl [Ht]; · iexact Ht
    isplitl [Hb]; · iexact Hb
    isplitl [Hd]; · iexact Hd
    iexact HO
  iintro %W' ⟨Ht, Hb, Hd, HO⟩
  iapply Hk
  isplitr [HO]
  · isplitl [HS']; · iexact HS'
    isplitl [HT Ht]
    · iapply HT; iexact Ht
    iapply HB
    isplitl [Hb] <;> iassumption
  iexact HO

/-- Waiting for slot `j`'s send to leave. -/
theorem wp_leave_slot (K : Dev nD × CIx → ℕ) (c : Dev nD) (j : Slot) (W : Waits sig Unit) (k : KProg F) (Q : PUnit → sProp 𝕄) :
    iprop(records m K ∗ strm m c j.1 (8 + j.2.val) ∗ owes (c : Thread nD τ) (owed c []) W)
      ⊢ iprop((∀ W', (strm m c j.1 (8 + j.2.val + 1) ∗ owes (c : Thread nD τ) (owed c []) W') -∗ WP c k Q) -∗ WP c (leaveOp j k) Q) := by
  obtain ⟨s, t⟩ := j
  have hs : ∀ t', t' ≠ t → sendPh t' (8 + t.val) = sendPh t' (8 + t.val + 1) := by revert t; decide
  have hr : ∀ t', takePh t' (8 + t.val) = takePh t' (8 + t.val + 1) := by revert t; decide
  have hb : ∀ u, u ≠ t.castSucc → bandPh u (8 + t.val) = bandPh u (8 + t.val + 1) := by revert t; decide
  have e1 : sendPh t (8 + t.val) = 1 := by revert t; decide
  have e2 : sendPh t (8 + t.val + 1) = 2 := by revert t; decide
  have e3 : bandPh t.castSucc (8 + t.val) = 1 := by revert t; decide
  have e4 : bandPh t.castSucc (8 + t.val + 1) = 2 := by revert t; decide
  unfold strm
  iintro ⟨#HR, ⟨HS, HT, HB⟩, HO⟩ Hk
  ihave HS' := (bigSep_swap (fun t' : Fin 4 => sendSt c (s, t') (sendPh t' (8 + t.val))) (fun t' => sendSt c (s, t') (sendPh t' (8 + t.val + 1))) t
    (fun t' h => by rw [hs t' h])) $$ HS
  icases HS' with ⟨Ht, HS⟩
  ihave HB' := (bigSep_swap (fun u : Fin 5 => bandSt m c s u (bandPh u (8 + t.val))) (fun u => bandSt m c s u (bandPh u (8 + t.val + 1))) t.castSucc
    (fun u h => by rw [hb u h])) $$ HB
  icases HB' with ⟨Hb, HB⟩
  ihave HT' := (Entails.of_eq (bigSep_congr (s := Finset.univ) fun t' (_ : t' ∈ Finset.univ) => congrArg (takeSt c (s, t')) (hr t'))) $$ HT
  rw [e1, e2, e3, e4]
  iapply (wp_leave_core m K c (s, t) W) $$ [Ht Hb HO]
  · isplitr; · iexact HR
    isplitl [Ht]; · iexact Ht
    isplitl [Hb]; · iexact Hb
    iexact HO
  iintro %W' ⟨Ht, Hb, HO⟩
  iapply Hk
  isplitr [HO]
  · isplitl [HS Ht]
    · iapply HS; iexact Ht
    isplitl [HT']; · iexact HT'
    iapply HB; iexact Hb
  iexact HO

/-! ## A list of actions -/

/-- All four streams, each at its counter. -/
def state (c : Dev nD) (n : Fin 4 → ℕ) : sProp 𝕄 := bigSep Finset.univ fun s : Fin 4 => strm m c s (n s)

/-- The counters with stream `s`'s one up. -/
def bump (n : Fin 4 → ℕ) (s : Fin 4) : Fin 4 → ℕ := Function.update n s (n s + 1)

/-- An action's stream. -/
def Act.on : Act → Fin 4
  | .send j => j.1
  | .take j => j.1
  | .leave j => j.1

/-- The counters after a list of actions. -/
def after (n : Fin 4 → ℕ) : List Act → Fin 4 → ℕ
  | [] => n
  | a :: l => after (bump n a.on) l

/-- That a list of actions may run from counters `n`, when the dues `l₀` are still owed after it: every action comes at its counter,
    a message is waited for only when all that is owed is of later steps, and a send's end only when nothing is owed. -/
def fits (l₀ : List Due) : (Fin 4 → ℕ) → List Act → Bool
  | _, [] => true
  | n, .send j :: l => decide (n j.1 = 2 * j.2.val) && fits l₀ (bump n j.1) l
  | n, .take j :: l => decide (n j.1 = 2 * j.2.val + 1) && (((sends l).map sendDue ++ l₀).all fun p => decide (level (kRcv j) < level p.2)) && fits l₀ (bump n j.1) l
  | n, .leave j :: l => decide (n j.1 = 8 + j.2.val) && ((sends l).map sendDue ++ l₀).isEmpty && fits l₀ (bump n j.1) l

/-- The partners' slots that a list of messages goes to. -/
def lands (c : Dev nD) : List Slot → sProp 𝕄
  | [] => iprop(emp)
  | j :: l => iprop(land (peer j c) j ∗ lands c l)

/-- One stream taken out of the state and put back one further. -/
theorem state_step (c : Dev nD) (n : Fin 4 → ℕ) (s : Fin 4) : state m c n ⊢ iprop(strm m c s (n s) ∗ (strm m c s (n s + 1) -∗ state m c (bump n s))) := by
  have h := bigSep_swap (fun s' : Fin 4 => strm m c s' (n s')) (fun s' => strm m c s' (bump n s s')) s
    (fun s' h => by unfold bump; rw [Function.update_of_ne h])
  have e : bump n s s = n s + 1 := Function.update_self ..
  rw [e] at h
  exact h

/-- A list of actions that fits runs, and takes the counters where it says. -/
theorem wp_run (K : Dev nD × CIx → ℕ) (c : Dev nD) (l₀ : List Due) (k : KProg F) (Q : PUnit → sProp 𝕄) :
    ∀ (l : List Act) (n : Fin 4 → ℕ) (W : Waits sig Unit), fits l₀ n l = true →
      iprop(records m K ∗ state m c n ∗ lands c (sends l) ∗ owes (c : Thread nD τ) (owed c ((sends l).map sendDue ++ l₀)) W)
        ⊢ iprop((∀ W', (state m c (after n l) ∗ owes (c : Thread nD τ) (owed c l₀) W') -∗ WP c k Q) -∗ WP c (run c l k) Q)
  | [], n, W, _ => by
    show _ ⊢ iprop((∀ W', (state m c n ∗ owes (c : Thread nD τ) (owed c l₀) W') -∗ WP c k Q) -∗ WP c k Q)
    iintro ⟨-, Hs, -, HO⟩ Hk
    iapply Hk
    isplitl [Hs]; · iexact Hs
    iexact HO
  | .send j :: l, n, W, h => by
    simp only [fits, Bool.and_eq_true, decide_eq_true_eq] at h
    obtain ⟨hn, h⟩ := h
    have IH := wp_run K c l₀ k Q l (bump n j.1)
    show iprop(records m K ∗ state m c n ∗ (land (peer j c) j ∗ lands c (sends l)) ∗ owes (c : Thread nD τ) (owed c (sendDue j :: ((sends l).map sendDue ++ l₀))) W)
        ⊢ iprop((∀ W', (state m c (after (bump n j.1) l) ∗ owes (c : Thread nD τ) (owed c l₀) W') -∗ WP c k Q) -∗ WP c (sendOp c j (run c l k)) Q)
    iintro ⟨#HR, Hs, ⟨Hl, Hls⟩, HO⟩ Hk
    ihave Hs' := (state_step m c n j.1) $$ Hs
    icases Hs' with ⟨Hj, Hs⟩
    rw [hn]
    iapply (wp_send_slot m K c j _ W) $$ [Hj Hl HO]
    · isplitr; · iexact HR
      isplitl [Hj]; · iexact Hj
      isplitl [Hl]; · iexact Hl
      iexact HO
    iintro ⟨Hj, HO⟩
    iapply (IH W h) $$ [Hj Hs Hls HO]
    · isplitr; · iexact HR
      isplitl [Hj Hs]
      · iapply Hs; iexact Hj
      isplitl [Hls]; · iexact Hls
      iexact HO
    iexact Hk
  | .take j :: l, n, W, h => by
    simp only [fits, Bool.and_eq_true, decide_eq_true_eq, List.all_eq_true] at h
    obtain ⟨⟨hn, hl⟩, h⟩ := h
    have IH := wp_run K c l₀ k Q l (bump n j.1)
    show iprop(records m K ∗ state m c n ∗ lands c (sends l) ∗ owes (c : Thread nD τ) (owed c ((sends l).map sendDue ++ l₀)) W)
        ⊢ iprop((∀ W', (state m c (after (bump n j.1) l) ∗ owes (c : Thread nD τ) (owed c l₀) W') -∗ WP c k Q) -∗ WP c (takeOp j (run c l k)) Q)
    iintro ⟨#HR, Hs, Hls, HO⟩ Hk
    ihave Hs' := (state_step m c n j.1) $$ Hs
    icases Hs' with ⟨Hj, Hs⟩
    rw [hn]
    iapply (wp_take_slot m K c j _ hl W) $$ [Hj HO]
    · isplitr; · iexact HR
      isplitl [Hj]; · iexact Hj
      iexact HO
    iintro %W' ⟨Hj, HO⟩
    iapply (IH W' h) $$ [Hj Hs Hls HO]
    · isplitr; · iexact HR
      isplitl [Hj Hs]
      · iapply Hs; iexact Hj
      isplitl [Hls]; · iexact Hls
      iexact HO
    iexact Hk
  | .leave j :: l, n, W, h => by
    simp only [fits, Bool.and_eq_true, decide_eq_true_eq, List.isEmpty_iff] at h
    obtain ⟨⟨hn, hl⟩, h⟩ := h
    have IH := wp_run K c l₀ k Q l (bump n j.1)
    rw [hl] at IH
    show iprop(records m K ∗ state m c n ∗ lands c (sends l) ∗ owes (c : Thread nD τ) (owed c ((sends l).map sendDue ++ l₀)) W)
        ⊢ iprop((∀ W', (state m c (after (bump n j.1) l) ∗ owes (c : Thread nD τ) (owed c l₀) W') -∗ WP c k Q) -∗ WP c (leaveOp j (run c l k)) Q)
    rw [hl]
    iintro ⟨#HR, Hs, Hls, HO⟩ Hk
    ihave Hs' := (state_step m c n j.1) $$ Hs
    icases Hs' with ⟨Hj, Hs⟩
    rw [hn]
    iapply (wp_leave_slot m K c j W) $$ [Hj HO]
    · isplitr; · iexact HR
      isplitl [Hj]; · iexact Hj
      iexact HO
    iintro %W' ⟨Hj, HO⟩
    iapply (IH W' h) $$ [Hj Hs Hls HO]
    · isplitr; · iexact HR
      isplitl [Hj Hs]
      · iapply Hs; iexact Hj
      isplitl [Hls]; · iexact Hls
      iexact HO
    iexact Hk

/-- The counters after the first messages. -/
theorem after_acts₁ : after (fun _ => 0) acts₁ = fun _ => 1 := by decide
/-- The counters at the end. -/
theorem after_acts₂ : after (fun _ => 1) acts₂ = fun _ => 12 := by decide
theorem fits_acts₁ : fits lateDues (fun _ => 0) acts₁ = true := by decide
theorem fits_acts₂ : fits [] (fun _ => 1) acts₂ = true := by decide

end Cert.KernelIdeal.Cube

end
-- ==== Proof.KernelIdeal.Body.lean ====
/- The whole body on a device: the four signals hand the device's sixteen slots to its four partners, the two handshakes' waits bring the
   partners' slots that the device writes, and the two lists of actions run between and after them. -/
module

public import proofs.«01_k».proof.Proof.KernelIdeal.Steps
public import Idealize.ShloMosaic.Lib.Ring.AtN

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Slots, one direction at a time -/

omit [FloatOps F] in
theorem lands_split (c : Dev nD) : ∀ l l' : List Slot, (lands c (l ++ l') : sProp 𝕄) ⊢ iprop(lands c l ∗ lands c l')
  | [], l' => by
    show lands c l' ⊢ iprop(emp ∗ lands c l')
    iintro H; isplitr; · iempintro
    iexact H
  | j :: l, l' => by
    show iprop(land (peer j c) j ∗ lands c (l ++ l')) ⊢ iprop((land (peer j c) j ∗ lands c l) ∗ lands c l')
    iintro ⟨H, Hr⟩
    ihave Hr' := (lands_split c l l') $$ Hr
    icases Hr' with ⟨Hl, Hl'⟩
    isplitr [Hl']
    · isplitl [H] <;> iassumption
    iexact Hl'

omit [FloatOps F] in
theorem lands_join (c : Dev nD) : ∀ l l' : List Slot, iprop(lands c l ∗ lands c l') ⊢ (lands c (l ++ l') : sProp 𝕄)
  | [], l' => by
    show iprop(emp ∗ lands c l') ⊢ lands c l'
    iintro ⟨-, H⟩; iexact H
  | j :: l, l' => by
    show iprop((land (peer j c) j ∗ lands c l) ∗ lands c l') ⊢ iprop(land (peer j c) j ∗ lands c (l ++ l'))
    iintro ⟨⟨H, Hl⟩, Hl'⟩
    isplitl [H]; · iexact H
    iapply (lands_join c l l')
    isplitl [Hl] <;> iassumption

omit [FloatOps F] in
theorem lands_perm (c : Dev nD) {l l' : List Slot} (h : l.Perm l') : (lands c l : sProp 𝕄) ⊢ lands c l' := by
  induction h with
  | nil => exact Entails.refl _
  | cons j _ ih =>
    show iprop(land (peer j c) j ∗ lands c _) ⊢ iprop(land (peer j c) j ∗ lands c _)
    exact sep_mono_right ih
  | swap j j' l =>
    show iprop(land (peer j' c) j' ∗ land (peer j c) j ∗ lands c l) ⊢ iprop(land (peer j c) j ∗ land (peer j' c) j' ∗ lands c l)
    iintro ⟨H, H', Hr⟩
    isplitl [H']; · iexact H'
    isplitl [H] <;> iassumption
  | trans _ _ ih ih' => exact ih.trans ih'

/-- The four slots of a direction, as a list. -/
def slotsAt (k : Fin 4) : List Slot := [slotAt k 0, slotAt k 1, slotAt k 2, slotAt k 3]

omit [FloatOps F] in
/-- What comes from the partner across a direction is the partner's slots of that direction. -/
theorem give_lands (k : Fin 4) (c : Dev nD) : (give k c : sProp 𝕄) ⊢ lands c (slotsAt k) := by
  unfold give slotsAt
  rw [Ring.bigSep_fin4, ← congrArg (fun k' => land (par k' c) (slotAt k 0)) (dir_slotAt k 0), ← congrArg (fun k' => land (par k' c) (slotAt k 1)) (dir_slotAt k 1),
    ← congrArg (fun k' => land (par k' c) (slotAt k 2)) (dir_slotAt k 2), ← congrArg (fun k' => land (par k' c) (slotAt k 3)) (dir_slotAt k 3)]
  show _ ⊢ iprop(land (peer (slotAt k 0) c) (slotAt k 0) ∗ land (peer (slotAt k 1) c) (slotAt k 1) ∗ land (peer (slotAt k 2) c) (slotAt k 2)
    ∗ land (peer (slotAt k 3) c) (slotAt k 3) ∗ emp)
  iintro ⟨H, H', H'', H'''⟩
  isplitl [H]; · iexact H
  isplitl [H']; · iexact H'
  isplitl [H'']; · iexact H''
  isplitl [H''']; · iexact H'''
  iempintro

/-- The partners' slots that come with the first handshake and are written only after the second. -/
def kept : List Slot := [(2, 2), (3, 2), (0, 2), (1, 2)]

theorem perm₁ : (slotsAt 0 ++ slotsAt 1).Perm (sends acts₁ ++ kept) := by decide
theorem perm₂ : (kept ++ (slotsAt 2 ++ slotsAt 3)).Perm (sends acts₂) := by decide

omit [FloatOps F] in
/-- A device's own slots, by direction: what its four signals hand over. -/
theorem own_slots (c : Dev nD) : (bigSep Finset.univ fun j : Slot => land c j)
    ⊢ iprop((give 0 (par 0 c) ∗ give 1 (par 1 c) ∗ give 2 (par 2 c) ∗ give 3 (par 3 c)) : sProp 𝕄) := by
  have e : (bigSep Finset.univ fun j : Slot => (land c j : sProp 𝕄)) = bigSep Finset.univ fun k : Fin 4 => give k (par k c) := by
    rw [bigSep_univ_equiv slotEquiv fun j : Slot => (land c j : sProp 𝕄), bigSep_univ_prod]
    refine bigSep_congr fun k _ => ?_
    unfold give
    rw [par_par]; rfl
  rw [e, Ring.bigSep_fin4]

/-! ## The signals -/

/-- The cell that direction `k`'s signal raises, -/
def sigIx (k : Fin 4) : CIx := (![kBar, kBar, kLate, kLate] : Fin 4 → CIx) k
/-- and which of the cell's two duties it pays. -/
def sigB (k : Fin 4) : Bool := (![false, true, false, true] : Fin 4 → Bool) k

theorem sig_duty (c : Dev nD) (k : Fin 4) : sigB k ∈ (Rd m).duties (cell c (sigIx k)) 0 := by
  rw [duties_cell]; revert k; decide
theorem sig_amt (k : Fin 4) : amt (sigIx k) = 1 := by fin_cases k <;> rfl
theorem sig_pay (d : Dev nD) (k : Fin 4) : (Rd m).payload (cell d (sigIx k)) 0 (sigB k) = give k d := by
  rw [payload_cell]; fin_cases k <;> rfl

/-- The signal of direction `k`. -/
theorem wp_sig (K : Dev nD × CIx → ℕ) (c d : Dev nD) (k : Fin 4) (hd : d = par k c) (sem : Sem sig) (hs : csem (sigIx k) = .reg sem)
    (l : List Due) (W : Waits sig Unit) (p : KProg F) (Q : PUnit → sProp 𝕄) :
    iprop(records m K ∗ dutyTok ER (cell (par k c) (sigIx k)) 0 (sigB k) ∗ give k (par k c) ∗ owes (c : Thread nD τ) (owed c ((k, sigIx k) :: l)) W)
      ⊢ iprop((owes (c : Thread nD τ) (owed c l) W -∗ WP c p Q)
        -∗ WP c (.op (.semSignal (d, .tc) sem (1#32).toInt) fun _ => p) Q) := by
  subst hd
  have hO : owed c ((k, sigIx k) :: l) = owed c l + tallyAt ((par k c : Thread nD τ), SemLoc.reg sem) () (1#32).toNat := by
    rw [owed_cons, sig_amt, ← hs]; rfl
  iintro ⟨#HR, Ht, Hg, HO⟩ Hk
  ihave HI := (records_inv m K (par k c) (sigIx k)) $$ HR
  ihave Hr := (records_reached m K (par k c) (sigIx k)) $$ HR
  ihave Hp := (Entails.of_eq (sig_pay m (par k c) k).symm) $$ Hg
  rw [show cell (par k c) (sigIx k) = ((par k c : Thread nD τ), SemLoc.reg sem) from congrArg (Prod.mk _) hs]
  iapply (Rounds.wp_signal 𝒱₀ ER (Rd m) (c : Thread nD τ) none (dst := (par k c : Thread nD τ)) (κ := K (par k c, sigIx k)) (d := sigB k) (r := 0)
      (hs ▸ sig_duty m (par k c) k) (hs ▸ ((amount_cell m (par k c) (sigIx k) (sigB k)).trans (sig_amt k))) () (owed c l)
      hO) $$ [HI Hr Ht Hp HO]
  · isplitl [HI]; · iexact HI
    isplitl [HO]; · iexact HO
    isplitl [Ht]; · iexact Ht
    isplitl [Hp]; · iexact Hp
    iexact Hr
  iexact Hk

/-! ## The whole body -/

/-- What the two handshakes' cells are at the start: not yet waited for, two credits each, and the four signals to make. -/
def shakes (c : Dev nD) : sProp 𝕄 :=
  iprop((atPos ER (cell c kBar) 0 ∅ 0 ∗ cred (tallyAt (cell c kBar) () 2)) ∗ (atPos ER (cell c kLate) 0 ∅ 0 ∗ cred (tallyAt (cell c kLate) () 2))
    ∗ bigSep Finset.univ fun k : Fin 4 => dutyTok ER (cell (par k c) (sigIx k)) 0 (sigB k))

theorem rest_bar (c : Dev nD) : bigSep (duesOf kBar) (fun b => pay m c kBar b) = iprop(give 0 c ∗ give 1 c) :=
  bigSep_univ_eq_bigSepL [false, true] (by decide) (by decide) _
theorem rest_late (c : Dev nD) : bigSep (duesOf kLate) (fun b => pay m c kLate b) = iprop(give 2 c ∗ give 3 c) :=
  bigSep_univ_eq_bigSepL [false, true] (by decide) (by decide) _

theorem above_bar : ∀ p ∈ msgDues, level kBar < level p.2 := by decide
theorem above_late : ∀ p ∈ lateDues, level kLate < level p.2 := by decide

/-- The body runs, from nothing sent to everything summed, every cell closed and nothing owed. -/
theorem wp_kbody (K : Dev nD × CIx → ℕ) (c : Dev nD) (W : Waits sig Unit) (Q : PUnit → sProp 𝕄) :
    iprop(records m K ∗ shakes c ∗ state m c (fun _ => 0) ∗ (bigSep Finset.univ fun j : Slot => land c j) ∗ owes (c : Thread nD τ) (owed c allDues) W)
      ⊢ iprop((∀ W', (semVal (cell c kBar) 0 ∗ semVal (cell c kLate) 0 ∗ state m c (fun _ => 12) ∗ owes (c : Thread nD τ) 0 W') -∗ Q ⟨⟩)
        -∗ WP c (kbody c) Q) := by
  unfold shakes
  rw [Ring.bigSep_fin4]
  iintro ⟨#HR, ⟨⟨HaB, HcB⟩, ⟨HaL, HcL⟩, Ht0, Ht1, Ht2, Ht3⟩, Hs, Hl, HO⟩ Hk
  ihave Hg := (own_slots c) $$ Hl
  icases Hg with ⟨Hg0, Hg1, Hg2, Hg3⟩
  -- the four signals
  iapply (wp_sig m K c (rawSig c 0) 0 (rawSig_eq c 0) barS rfl ((1, kBar) :: (2, kLate) :: (3, kLate) :: msgDues) W) $$ [Ht0 Hg0 HO]
  · isplitr; · iexact HR
    isplitl [Ht0]; · iexact Ht0
    isplitl [Hg0]; · iexact Hg0
    iexact HO
  iintro HO
  iapply (wp_sig m K c (rawSig c 1) 1 (rawSig_eq c 1) barS rfl ((2, kLate) :: (3, kLate) :: msgDues) W) $$ [Ht1 Hg1 HO]
  · isplitr; · iexact HR
    isplitl [Ht1]; · iexact Ht1
    isplitl [Hg1]; · iexact Hg1
    iexact HO
  iintro HO
  iapply (wp_sig m K c (rawSig c 2) 2 (rawSig_eq c 2) lateS rfl ((3, kLate) :: msgDues) W) $$ [Ht2 Hg2 HO]
  · isplitr; · iexact HR
    isplitl [Ht2]; · iexact Ht2
    isplitl [Hg2]; · iexact Hg2
    iexact HO
  iintro HO
  iapply (wp_sig m K c (rawSig c 3) 3 (rawSig_eq c 3) lateS rfl msgDues W) $$ [Ht3 Hg3 HO]
  · isplitr; · iexact HR
    isplitl [Ht3]; · iexact Ht3
    isplitl [Hg3]; · iexact Hg3
    iexact HO
  iintro HO
  -- the first handshake's wait
  ihave HM := (records_mayWait m K c kBar msgDues above_bar) $$ HR
  iapply (wp_cell_wait m K c kBar (owed c msgDues) W 2 _ rfl rfl (wpE_semWait_eq 𝒱₀ (c : Thread nD τ) none Set.univ)) $$ [HM HO HcB HaB]
  · isplitr; · iexact HR
    isplitl [HcB]; · iexact HcB
    isplitl [HaB]; · iexact HaB
    isplitl [HO]; · iexact HO
    iexact HM
  iintro ⟨HO, HaB, Hp⟩
  ihave Hp := (Entails.of_eq (rest_bar m c)) $$ Hp
  icases Hp with ⟨Hg0, Hg1⟩
  ihave Hg0 := (give_lands 0 c) $$ Hg0
  ihave Hg1 := (give_lands 1 c) $$ Hg1
  ihave Hg := (lands_join c (slotsAt 0) (slotsAt 1)) $$ [Hg0 Hg1]
  · isplitl [Hg0] <;> iassumption
  ihave Hg := ((lands_perm c perm₁).trans (lands_split c (sends acts₁) kept)) $$ Hg
  icases Hg with ⟨Hg, Hkept⟩
  imod (close_cell m K c kBar) $$ [HaB] with HzB
  · isplitr; · iexact HR
    iexact HaB
  -- the first messages
  iapply (wp_run m K c lateDues _ Q acts₁ (fun _ => 0) _ fits_acts₁) $$ [Hs Hg HO]
  · isplitr; · iexact HR
    isplitl [Hs]; · iexact Hs
    isplitl [Hg]; · iexact Hg
    iexact HO
  rw [after_acts₁]
  iintro %W₁ ⟨Hs, HO⟩
  -- the second handshake's wait
  ihave HM := (records_mayWait m K c kLate lateDues above_late) $$ HR
  iapply (wp_cell_wait m K c kLate (owed c lateDues) W₁ 2 _ rfl rfl (wpE_semWait_eq 𝒱₀ (c : Thread nD τ) none Set.univ)) $$ [HM HO HcL HaL]
  · isplitr; · iexact HR
    isplitl [HcL]; · iexact HcL
    isplitl [HaL]; · iexact HaL
    isplitl [HO]; · iexact HO
    iexact HM
  iintro ⟨HO, HaL, Hp⟩
  ihave Hp := (Entails.of_eq (rest_late m c)) $$ Hp
  icases Hp with ⟨Hg2, Hg3⟩
  ihave Hg2 := (give_lands 2 c) $$ Hg2
  ihave Hg3 := (give_lands 3 c) $$ Hg3
  ihave Hg := (lands_join c (slotsAt 2) (slotsAt 3)) $$ [Hg2 Hg3]
  · isplitl [Hg2] <;> iassumption
  ihave Hg := ((lands_join c kept (slotsAt 2 ++ slotsAt 3)).trans (lands_perm c perm₂)) $$ [Hkept Hg]
  · isplitl [Hkept] <;> iassumption
  imod (close_cell m K c kLate) $$ [HaL] with HzL
  · isplitr; · iexact HR
    iexact HaL
  -- the rest
  iapply (wp_run m K c [] _ Q acts₂ (fun _ => 1) _ fits_acts₂) $$ [Hs Hg HO]
  · isplitr; · iexact HR
    isplitl [Hs]; · iexact Hs
    isplitl [Hg]; · iexact Hg
    rw [List.append_nil]; iexact HO
  rw [after_acts₂]
  iintro %W₂ ⟨Hs, HO⟩
  unfold WP; rw [wp_ret]; imodintro
  iapply Hk
  isplitl [HzB]; · iexact HzB
  isplitl [HzL]; · iexact HzL
  isplitl [Hs]; · iexact Hs
  iexact HO

end Cert.KernelIdeal.Cube

end
-- ==== Proof.KernelIdeal.Bands.lean ====
/- Each buffer is its bands: a buffer owned whole is its bands owned, and back. The input's block and the result are four bands of
   64 rows, the first scratch buffer twelve, the receive buffer sixteen. Also what the result holds at the end (`outAt`). -/
module

public import Idealize.ShloMosaic.Lib.MemrefSat

public import proofs.«01_k».proof.Proof.KernelIdeal.Steps

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Bands along one axis -/

/-- Boxes of one size are disjoint when on one axis their intervals are. -/
theorem boxes_disjoint {s : Shape} {T : Type} (off : T → Fin s.rank → ℕ) (size : Fin s.rank → ℕ) (inb : ∀ t i, off t i + size i ≤ s.size i)
    (a : Fin s.rank) (h : ∀ t t', t ≠ t' → off t a + size a ≤ off t' a ∨ off t' a + size a ≤ off t a) (t t' : T) (ht : t ≠ t') :
    Disjoint (Rect.unit (s := s) (off t) size (inb t)).set (Rect.unit (s := s) (off t') size (inb t')).set := by
  refine Finset.disjoint_left.mpr fun x hx hx' => ?_
  have h₁ := Rect.mem_set_unit.mp hx a
  have h₂ := Rect.mem_set_unit.mp hx' a
  rcases h t t' ht with h | h <;> omega

/-- Boxes that are full on every axis but one cover the shape when on that axis their intervals cover it. -/
theorem boxes_cover {s : Shape} {T : Type} [Fintype T] (off : T → Fin s.rank → ℕ) (size : Fin s.rank → ℕ) (inb : ∀ t i, off t i + size i ≤ s.size i)
    (a : Fin s.rank) (hf : ∀ t i, i ≠ a → off t i = 0 ∧ size i = s.size i) (h : ∀ k : Fin (s.size a), ∃ t, off t a ≤ k.val ∧ k.val < off t a + size a) :
    (Finset.univ : Finset T).biUnion (fun t => (Rect.unit (s := s) (off t) size (inb t)).set) = Finset.univ := by
  ext x
  simp only [Finset.mem_biUnion, Finset.mem_univ, true_and, iff_true]
  obtain ⟨t, h₁⟩ := h (x a)
  refine ⟨t, Rect.mem_set_unit.mpr fun i => ?_⟩
  by_cases hi : i = a
  · subst hi; exact h₁
  · rw [(hf t i hi).1, (hf t i hi).2]; exact ⟨Nat.zero_le _, by rw [Nat.zero_add]; exact (x i).isLt⟩

theorem x_disjoint : ∀ t t' : Fin 4, t ≠ t' → Disjoint (xRect t).set (xRect t').set :=
  boxes_disjoint (s := S1x1x1x256x256) (fun t : Fin 4 => ![0, 0, 0, 64 * t.val, 0]) _ inb_x 3 (by decide)
theorem x_cover : (Finset.univ : Finset (Fin 4)).biUnion (fun t => (xRect t).set) = Finset.univ :=
  boxes_cover (s := S1x1x1x256x256) (fun t : Fin 4 => ![0, 0, 0, 64 * t.val, 0]) _ inb_x 3 (by decide)
    fun k => ⟨⟨k.val / 64, by have : k.val < 256 := k.isLt; omega⟩, by show 64 * (k.val / 64) ≤ k.val ∧ k.val < 64 * (k.val / 64) + 64; omega⟩
theorem o_disjoint : ∀ t t' : Fin 4, t ≠ t' → Disjoint (oRect t).set (oRect t').set :=
  boxes_disjoint (s := S256x256) (fun t : Fin 4 => ![64 * t.val, 0]) _ inb_o 0 (by decide)
theorem o_cover : (Finset.univ : Finset (Fin 4)).biUnion (fun t => (oRect t).set) = Finset.univ :=
  boxes_cover (s := S256x256) (fun t : Fin 4 => ![64 * t.val, 0]) _ inb_o 0 (by decide)
    fun k => ⟨⟨k.val / 64, by have : k.val < 256 := k.isLt; omega⟩, by show 64 * (k.val / 64) ≤ k.val ∧ k.val < 64 * (k.val / 64) + 64; omega⟩
theorem a_disjoint : ∀ t t' : Fin 4 × Fin 3, t ≠ t' → Disjoint (aRect t.1 t.2).set (aRect t'.1 t'.2).set :=
  boxes_disjoint (s := S12x64x256) (fun t : Fin 4 × Fin 3 => ![3 * t.1.val + t.2.val, 0, 0]) _ (fun t => inb_a t.1 t.2) 0 (by decide)
theorem a_cover : (Finset.univ : Finset (Fin 4 × Fin 3)).biUnion (fun t => (aRect t.1 t.2).set) = Finset.univ :=
  boxes_cover (s := S12x64x256) (fun t : Fin 4 × Fin 3 => ![3 * t.1.val + t.2.val, 0, 0]) _ (fun t => inb_a t.1 t.2) 0 (by decide) (by decide)
theorem v_disjoint : ∀ t t' : Slot, t ≠ t' → Disjoint (vRect t).set (vRect t').set :=
  boxes_disjoint (s := S16x64x256) (fun t : Slot => ![num t, 0, 0]) _ inb_v 0 (by decide)
theorem v_cover : (Finset.univ : Finset Slot).biUnion (fun t => (vRect t).set) = Finset.univ :=
  boxes_cover (s := S16x64x256) (fun t : Slot => ![num t, 0, 0]) _ inb_v 0 (by decide) (by decide)

/-! ## A memref and its bands -/

omit [FloatOps F] in
/-- Dropping axes of size one renames the places of the contents and nothing else. -/
theorem owns_squeeze (c : Dev nD) {sh S : Shape} {sp : Space} {e : EltTy} (M : Memref sig .tc sp sh e) (h : sh.Squeezes S) (q : PosShare TreeShare)
    (X : sh.Idx → Elt F e) :
    (owns (c : Thread nD τ) (M.squeeze S h) q (fun y => X (Shape.reshapeEquiv h.numel_eq y)) : sProp 𝕄) = owns (c : Thread nD τ) M q X := by
  have hr (f : M.view.ty.Contents (Elt F)) :
      ((M.squeeze S h).view.read (Elt F) f = fun y => X (Shape.reshapeEquiv h.numel_eq y)) ↔ M.view.read (Elt F) f = X := by
    constructor
    · intro e
      funext x
      have := congrFun e ((Shape.reshapeEquiv h.numel_eq).symm x)
      rw [Equiv.apply_symm_apply] at this
      rw [← this]
      exact congrArg (M.view.read (Elt F) f) (Equiv.apply_symm_apply _ x).symm
    · intro e; rw [← e]; rfl
  have hs : (M.squeeze S h).view.set = M.view.set := View.set_reshape _ _
  unfold owns
  rw [hs]
  simp only [hr]

/-- The slice, read in the shape with the axes of size one dropped. -/
abbrev sq {sh S : Shape} {β : Type} (r : Rect sh) (h : r.shape.Squeezes S) (X : sh.Idx → β) : S.Idx → β := fun y => X (r.emb (Shape.reshapeEquiv h.numel_eq y))

section Cut

variable (c : Dev nD) {sh S : Shape} (M : Memref sig .tc .vmem sh .f32) {T : Type} [Fintype T] [DecidableEq T] (r : T → Rect sh)
  (hr : ∀ t a, (r t).stride a = 1) (hd : ∀ t t', t ≠ t' → Disjoint (r t).set (r t').set)
  (hcov : (Finset.univ : Finset T).biUnion (fun t => (r t).set) = Finset.univ) (h : ∀ t, (r t).shape.Squeezes S)

include hd hcov

omit [FloatOps F] in
/-- A memref owned is its bands owned, each at its part of the contents. -/
theorem owns_bands (X : sh.Idx → Elt F .f32) :
    (owns (c : Thread nD τ) M fullShare X : sProp 𝕄)
      ⊢ bigSep Finset.univ fun t => owns (c : Thread nD τ) ((M.slice (r t) (hr t)).squeeze S (h t)) fullShare (sq (r t) (h t) X) := by
  refine (owns_rects (c : Thread nD τ) M fullShare r hr hd hcov X).trans ?_
  rw [bigSep_congr (fun t _ => owns_squeeze c (M.slice (r t) (hr t)) (h t) fullShare (fun j => X ((r t).emb j)))]

/-- And back. -/
theorem owns_of_bands (X : sh.Idx → Elt F .f32) :
    (bigSep Finset.univ fun t => owns (c : Thread nD τ) ((M.slice (r t) (hr t)).squeeze S (h t)) fullShare (sq (r t) (h t) X))
      ⊢ (owns (c : Thread nD τ) M fullShare X : sProp 𝕄) := by
  rw [bigSep_congr (fun t _ => owns_squeeze c (M.slice (r t) (hr t)) (h t) fullShare (fun j => X ((r t).emb j)))]
  exact owns_of_rects (c : Thread nD τ) M fullShare r hr hd hcov X

/-- Bands owned at whatever contents are the memref owned at some contents. -/
theorem some_of_bands :
    (bigSep Finset.univ fun t => iprop(∃ X, owns (c : Thread nD τ) ((M.slice (r t) (hr t)).squeeze S (h t)) fullShare X))
      ⊢ (iprop(∃ X : sh.Idx → Elt F .f32, owns (c : Thread nD τ) M fullShare X) : sProp 𝕄) := by
  haveI : Nonempty (Elt F .f32) := Elt.nonempty F .f32
  refine (bigSep_exists_pi Finset.univ (fun t X => owns (c : Thread nD τ) ((M.slice (r t) (hr t)).squeeze S (h t)) fullShare X)).trans ?_
  iintro ⟨%Xs, H⟩
  iexists Rect.glue r hcov (fun t j => Xs t ((Shape.reshapeEquiv (h t).numel_eq).symm j))
  iapply (owns_of_bands c M r hr hd hcov h _)
  have e (t : T) : sq (r t) (h t) (Rect.glue r hcov fun t j => Xs t ((Shape.reshapeEquiv (h t).numel_eq).symm j)) = Xs t := by
    funext y
    show Rect.glue r hcov _ ((r t).emb _) = _
    rw [Rect.glue_emb r hcov hd, Equiv.symm_apply_apply]
  simp only [e]
  iexact H

omit [FloatOps F] in
/-- A memref owned at some contents is its bands owned at some contents. -/
theorem some_bands :
    (iprop(∃ X : sh.Idx → Elt F .f32, owns (c : Thread nD τ) M fullShare X) : sProp 𝕄)
      ⊢ bigSep Finset.univ fun t => iprop(∃ X, owns (c : Thread nD τ) ((M.slice (r t) (hr t)).squeeze S (h t)) fullShare X) := by
  iintro ⟨%X, H⟩
  have e (t : T) : (owns (c : Thread nD τ) ((M.slice (r t) (hr t)).squeeze S (h t)) fullShare (sq (r t) (h t) X) : sProp 𝕄)
      ⊢ iprop(∃ X, owns (c : Thread nD τ) ((M.slice (r t) (hr t)).squeeze S (h t)) fullShare X) := by
    iintro H; iexists (sq (r t) (h t) X); iexact H
  iapply ((owns_bands c M r hr hd hcov h X).trans (bigSep_mono fun t _ => e t)) $$ H

end Cut

/-! ## The four buffers -/

/-- What the result holds at the end: in each band its stream's partial sum after four steps. -/
def outAt (c : Dev nD) : (cc0_stg1_0 : Ref sig .tc).ty.Contents (Elt F) := Rect.glue oRect o_cover fun s => val m s 4 c

theorem outAt_emb (c : Dev nD) (s : Fin 4) (y : S64x256.Idx) : outAt m c ((oRect s).emb y) = val m s 4 c y :=
  Rect.glue_emb oRect o_cover o_disjoint (fun s => val m s 4 c) s y

/-- The input's block is the four streams' partial sums after no step, -/
theorem x_bands (c : Dev nD) : (owns (c : Thread nD τ) xM fullShare (xstg m c) : sProp 𝕄) ⊢ bigSep Finset.univ fun s => bandSt m c s 0 2 :=
  owns_bands c xM xRect (fun _ _ => rfl) x_disjoint x_cover (fun _ => squeezes_S1x1x1x64x256_S64x256) (xstg m c)

/-- and back. -/
theorem x_of_bands (c : Dev nD) : (bigSep Finset.univ fun s => bandSt m c s 0 2) ⊢ (owns (c : Thread nD τ) xM fullShare (xstg m c) : sProp 𝕄) :=
  owns_of_bands c xM xRect (fun _ _ => rfl) x_disjoint x_cover (fun _ => squeezes_S1x1x1x64x256_S64x256) (xstg m c)

/-- The result's buffer is a band for each stream's last partial sum, -/
theorem o_bands (c : Dev nD) : (iprop(∃ X : S256x256.Idx → Elt F .f32, owns (c : Thread nD τ) oM fullShare X) : sProp 𝕄) ⊢ bigSep Finset.univ fun s => bandSt m c s 4 0 := by
  iintro ⟨%X, H⟩
  iapply ((owns_rects (c : Thread nD τ) oM fullShare oRect (fun _ _ => rfl) o_disjoint o_cover X).trans
    (bigSep_mono fun s _ => show _ ⊢ bandSt m c s 4 0 by rw [bandSt_0]; iintro H; iexists (fun j => X ((oRect s).emb j)); iexact H)) $$ H

/-- and the four last partial sums are the result. -/
theorem o_of_bands (c : Dev nD) : (bigSep Finset.univ fun s => bandSt m c s 4 2) ⊢ (owns (c : Thread nD τ) oM fullShare (outAt m c) : sProp 𝕄) := by
  refine .trans ?_ (owns_of_rects (c : Thread nD τ) oM fullShare oRect (fun _ _ => rfl) o_disjoint o_cover (outAt m c))
  refine bigSep_mono fun s _ => ?_
  have e : (fun j => outAt m c ((oRect s).emb j)) = val m s 4 c := funext (outAt_emb m c s)
  rw [e, bandSt_2]
  refine (?_ : (_ : sProp 𝕄) ⊢ (_ : sProp 𝕄))
  iintro H
  iexact H

/-- The partial sums in the first scratch buffer, by number. -/
abbrev mid (i : Fin 3) : Fin 5 := i.succ.castSucc

/-- The first scratch buffer is a band for each stream's partial sums after one, two and three steps, -/
theorem a_bands (c : Dev nD) : (iprop(∃ X : S12x64x256.Idx → Elt F .f32, owns (c : Thread nD τ) aM fullShare X) : sProp 𝕄)
    ⊢ bigSep Finset.univ fun t : Fin 4 × Fin 3 => bandSt m c t.1 (mid t.2) 0 := by
  refine (some_bands c aM (fun t : Fin 4 × Fin 3 => aRect t.1 t.2) (fun _ _ => rfl) a_disjoint a_cover (fun _ => squeezes_S1x64x256_S64x256)).trans ?_
  refine bigSep_mono fun t _ => ?_
  rw [bandSt_0]
  refine (?_ : (_ : sProp 𝕄) ⊢ (_ : sProp 𝕄))
  iintro ⟨%X, H⟩
  iexists X
  obtain ⟨s, i⟩ := t
  fin_cases i <;> iexact H

/-- and back, whatever they hold. -/
theorem a_of_bands (c : Dev nD) : (bigSep Finset.univ fun t : Fin 4 × Fin 3 => bandSt m c t.1 (mid t.2) 2)
    ⊢ (iprop(∃ X : S12x64x256.Idx → Elt F .f32, owns (c : Thread nD τ) aM fullShare X) : sProp 𝕄) := by
  refine .trans ?_ (some_of_bands c aM (fun t : Fin 4 × Fin 3 => aRect t.1 t.2) (fun _ _ => rfl) a_disjoint a_cover (fun _ => squeezes_S1x64x256_S64x256))
  refine bigSep_mono fun t _ => ?_
  rw [bandSt_2]
  refine (?_ : (_ : sProp 𝕄) ⊢ (_ : sProp 𝕄))
  iintro H
  iexists val m t.1 (mid t.2) c
  obtain ⟨s, i⟩ := t
  fin_cases i <;> iexact H

/-- The receive buffer is its slots, -/
theorem v_bands (c : Dev nD) : (iprop(∃ X : S16x64x256.Idx → Elt F .f32, owns (c : Thread nD τ) vM fullShare X) : sProp 𝕄) ⊢ bigSep Finset.univ fun j : Slot => land c j :=
  some_bands c vM vRect (fun _ _ => rfl) v_disjoint v_cover (fun _ => squeezes_S1x64x256_S64x256)

/-- and back. -/
theorem v_of_bands (c : Dev nD) : (bigSep Finset.univ fun j : Slot => land c j) ⊢ (iprop(∃ X : S16x64x256.Idx → Elt F .f32, owns (c : Thread nD τ) vM fullShare X) : sProp 𝕄) :=
  some_of_bands c vM vRect (fun _ _ => rfl) v_disjoint v_cover (fun _ => squeezes_S1x64x256_S64x256)

end Cert.KernelIdeal.Cube
-- ==== Proof.KernelIdeal.Ghost.lean ====
/- What each device starts from, dealt out at the launch: every cell's position at its first round, the tokens of the duties the
   device pays (its partners' handshakes, its own sends, its partners' receives), the credits of what is owed to it. Also the
   streams' state at the two ends of the body, as the buffers' bands and the cells. -/
module

public import Idealize.ShloMosaic.Lib.Pipeline.Launch
public import Idealize.ShloMosaic.Lib.Pipeline.Kit

public import proofs.«01_k».proof.Proof.KernelIdeal.Body
public import proofs.«01_k».proof.Proof.KernelIdeal.Bands

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Conjunctions over the indices -/

omit [FloatOps F] in
/-- A conjunction over all of a device's cells, by kind. -/
theorem bigSep_cells (Φ : CIx → sProp 𝕄) :
    bigSep Finset.univ Φ = iprop(Φ kBar ∗ Φ kLate ∗ (bigSep Finset.univ fun j : Slot => Φ (kSnd j)) ∗ bigSep Finset.univ fun j : Slot => Φ (kRcv j)) := by
  have u (Ψ : Unit → sProp 𝕄) : bigSep Finset.univ Ψ = Ψ () := bigSep_singleton
  rw [bigSep_univ_sum, bigSep_univ_sum, bigSep_univ_sum, u, u]
  rfl

omit [FloatOps F] in
/-- The same over the kernel's own cells. -/
theorem bigSep_own (Φ : OIx → sProp 𝕄) :
    bigSep Finset.univ Φ = iprop(Φ (.inl ()) ∗ (bigSep Finset.univ fun j : Slot => Φ (.inr (.inl j))) ∗ bigSep Finset.univ fun j : Slot => Φ (.inr (.inr j))) := by
  have u (Ψ : Unit → sProp 𝕄) : bigSep Finset.univ Ψ = Ψ () := bigSep_singleton
  rw [bigSep_univ_sum, bigSep_univ_sum, u]
  rfl

omit [FloatOps F] in
/-- A conjunction over a stream's five partial sums: the first, the three in the first scratch buffer, the last. -/
theorem bigSep_five (Φ : Fin 5 → sProp 𝕄) :
    bigSep Finset.univ Φ = iprop(Φ 0 ∗ (bigSep Finset.univ fun i : Fin 3 => Φ (mid i)) ∗ Φ 4) := by
  have h5 : bigSep Finset.univ Φ = iprop(Φ 0 ∗ Φ 1 ∗ Φ 2 ∗ Φ 3 ∗ Φ 4) := bigSep_univ_eq_bigSepL [0, 1, 2, 3, 4] (by decide) (by decide) Φ
  have h3 : (bigSep Finset.univ fun i : Fin 3 => Φ (mid i)) = iprop(Φ 1 ∗ Φ 2 ∗ Φ 3) :=
    bigSep_univ_eq_bigSepL [0, 1, 2] (by decide) (by decide) fun i : Fin 3 => Φ (mid i)
  have h₁ : iprop(Φ 0 ∗ Φ 1 ∗ Φ 2 ∗ Φ 3 ∗ Φ 4) ⊢ iprop(Φ 0 ∗ (Φ 1 ∗ Φ 2 ∗ Φ 3) ∗ Φ 4) := by
    iintro ⟨H0, H1, H2, H3, H4⟩
    isplitl [H0]; · iexact H0
    isplitl [H1 H2 H3]
    · isplitl [H1]; · iexact H1
      isplitl [H2] <;> iassumption
    iexact H4
  have h₂ : iprop(Φ 0 ∗ (Φ 1 ∗ Φ 2 ∗ Φ 3) ∗ Φ 4) ⊢ iprop(Φ 0 ∗ Φ 1 ∗ Φ 2 ∗ Φ 3 ∗ Φ 4) := by
    iintro ⟨H0, ⟨H1, H2, H3⟩, H4⟩
    isplitl [H0]; · iexact H0
    isplitl [H1]; · iexact H1
    isplitl [H2]; · iexact H2
    isplitl [H3] <;> iassumption
  rw [h5, h3]
  exact BI.Entails.antisymm h₁ h₂

/-! ## The streams' state at the two ends -/

/-- All streams at one counter: the send cells, the receive cells, the bands of the three buffers. -/
theorem state_eq (c : Dev nD) (n : ℕ) :
    (state m c fun _ => n) = iprop((bigSep Finset.univ fun j : Slot => sendSt c j (sendPh j.2 n)) ∗ (bigSep Finset.univ fun j : Slot => takeSt c j (takePh j.2 n))
      ∗ (bigSep Finset.univ fun s : Fin 4 => bandSt m c s 0 (bandPh 0 n))
      ∗ (bigSep Finset.univ fun t : Fin 4 × Fin 3 => bandSt m c t.1 (mid t.2) (bandPh (mid t.2) n))
      ∗ bigSep Finset.univ fun s : Fin 4 => bandSt m c s 4 (bandPh 4 n)) := by
  have e (s : Fin 4) : (bigSep Finset.univ fun u : Fin 5 => bandSt m c s u (bandPh u n))
      = iprop(bandSt m c s 0 (bandPh 0 n) ∗ (bigSep Finset.univ fun i : Fin 3 => bandSt m c s (mid i) (bandPh (mid i) n)) ∗ bandSt m c s 4 (bandPh 4 n)) :=
    bigSep_five fun u => bandSt m c s u (bandPh u n)
  unfold state strm
  simp only [e]
  rw [bigSep_sep', bigSep_sep', bigSep_sep', bigSep_sep',
    bigSep_univ_prod (fun j : Slot => sendSt c j (sendPh j.2 n)), bigSep_univ_prod (fun j : Slot => takeSt c j (takePh j.2 n)),
    bigSep_univ_prod (fun t : Fin 4 × Fin 3 => bandSt m c t.1 (mid t.2) (bandPh (mid t.2) n))]

theorem sendPh_0 : ∀ t, sendPh t 0 = 0 := by decide
theorem takePh_0 : ∀ t, takePh t 0 = 0 := by decide
theorem midPh_0 : ∀ i, bandPh (mid i) 0 = 0 := by decide
theorem sendPh_12 : ∀ t, sendPh t 12 = 2 := by decide
theorem takePh_12 : ∀ t, takePh t 12 = 1 := by decide
theorem midPh_12 : ∀ i, bandPh (mid i) 12 = 2 := by decide

/-- Before the body: nothing sent, the input's rows in place. -/
theorem state_0 (c : Dev nD) : (state m c fun _ => 0)
    = iprop((bigSep Finset.univ fun j : Slot => sendSt c j 0) ∗ (bigSep Finset.univ fun j : Slot => takeSt c j 0)
      ∗ (bigSep Finset.univ fun s : Fin 4 => bandSt m c s 0 2)
      ∗ (bigSep Finset.univ fun t : Fin 4 × Fin 3 => bandSt m c t.1 (mid t.2) 0)
      ∗ bigSep Finset.univ fun s : Fin 4 => bandSt m c s 4 0) := by
  rw [state_eq]; simp only [sendPh_0, takePh_0, midPh_0]; rfl

/-- After it: every send over, every message taken in, every partial sum in place. -/
theorem state_12 (c : Dev nD) : (state m c fun _ => 12)
    = iprop((bigSep Finset.univ fun j : Slot => sendSt c j 2) ∗ (bigSep Finset.univ fun j : Slot => takeSt c j 1)
      ∗ (bigSep Finset.univ fun s : Fin 4 => bandSt m c s 0 2)
      ∗ (bigSep Finset.univ fun t : Fin 4 × Fin 3 => bandSt m c t.1 (mid t.2) 2)
      ∗ bigSep Finset.univ fun s : Fin 4 => bandSt m c s 4 2) := by
  rw [state_eq]; simp only [sendPh_12, takePh_12, midPh_12]; rfl

/-! ## Cells and tokens -/

theorem cell_injective : Function.Injective (fun ck : Dev nD × CIx => cell ck.1 ck.2) := by
  rintro ⟨c, k⟩ ⟨c', k'⟩ h
  have h₁ : c = c' := congrArg (fun g : GSem nD τ sig => g.1.1) h
  have h₂ : k = k' := csem_injective (congrArg (fun g : GSem nD τ sig => g.2) h)
  rw [h₁, h₂]

/-- Every device's cells. -/
def allCells : Finset (GSem nD τ sig) := Finset.univ.map ⟨_, cell_injective⟩

/-- A device's duties: two on each handshake, one on each send and on each receive. -/
abbrev TIx := Fin 4 ⊕ (Slot ⊕ Slot)

/-- A duty's cell and which of the cell's duties it is. -/
def tokAt : TIx → CIx × Bool
  | .inl k => (sigIx k, sigB k)
  | .inr (.inl j) => (kSnd j, false)
  | .inr (.inr j) => (kRcv j, false)

instance : DecidableEq (CIx × Bool) := inferInstance
instance (a b : TIx) : Decidable (tokAt a = tokAt b → a = b) := inferInstance
theorem tokAt_injective : Function.Injective tokAt := by
  have h : ∀ a, ∀ b, tokAt a = tokAt b → a = b := by decide +kernel
  exact fun a b => h a b

abbrev tokOf (x : Dev nD × TIx) : GSem nD τ sig × ℕ × Bool := (cell x.1 (tokAt x.2).1, 0, (tokAt x.2).2)

theorem tokOf_injective : Function.Injective tokOf := by
  rintro ⟨c, k⟩ ⟨c', k'⟩ h
  have h₀ := cell_injective (a₁ := (c, (tokAt k).1)) (a₂ := (c', (tokAt k').1)) (congrArg Prod.fst h)
  have h₁ : c = c' := congrArg Prod.fst h₀
  have h₂ : (tokAt k).1 = (tokAt k').1 := congrArg Prod.snd h₀
  have h₃ : (tokAt k).2 = (tokAt k').2 := congrArg (fun y : GSem nD τ sig × ℕ × Bool => y.2.2) h
  rw [h₁, tokAt_injective (Prod.ext h₂ h₃)]

/-- Every device's duty tokens. -/
def allToks : Finset (GSem nD τ sig × ℕ × Bool) := Finset.univ.map ⟨_, tokOf_injective⟩

/-- The tokens of the duties on device `c`'s cells. -/
def toks (c : Dev nD) : sProp 𝕄 :=
  iprop((bigSep Finset.univ fun k : Fin 4 => dutyTok ER (cell c (sigIx k)) 0 (sigB k))
    ∗ (bigSep Finset.univ fun j : Slot => dutyTok ER (cell c (kSnd j)) 0 false) ∗ bigSep Finset.univ fun j : Slot => dutyTok ER (cell c (kRcv j)) 0 false)

/-- The tokens of the duties device `c` pays. -/
def payToks (c : Dev nD) : sProp 𝕄 :=
  iprop((bigSep Finset.univ fun k : Fin 4 => dutyTok ER (cell (par k c) (sigIx k)) 0 (sigB k))
    ∗ (bigSep Finset.univ fun j : Slot => dutyTok ER (cell c (kSnd j)) 0 false) ∗ bigSep Finset.univ fun j : Slot => dutyTok ER (cell (peer j c) (kRcv j)) 0 false)

/-- The partners across a direction, paired. -/
def parEquiv (k : Fin 4) : Dev nD ≃ Dev nD := ⟨par k, par k, par_par k, par_par k⟩

omit [FloatOps F] in
/-- A conjunction over every device and index, with the device replaced by its partner across the index's direction. -/
theorem bigSep_partners {I : Type} [Fintype I] (k : I → Fin 4) (Φ : Dev nD → I → sProp 𝕄) :
    (bigSep Finset.univ fun c : Dev nD => bigSep Finset.univ fun i => Φ c i)
      = bigSep Finset.univ fun c : Dev nD => bigSep Finset.univ fun i => Φ (par (k i) c) i := by
  rw [BI.bigSep_univ_comm, BI.bigSep_univ_comm (fun c i => Φ (par (k i) c) i)]
  exact bigSep_congr fun i _ => bigSep_univ_equiv (parEquiv (k i)) fun c => Φ c i

omit [FloatOps F] in
/-- All tokens, by the device whose cell it is and by the device that pays. -/
theorem toks_dealt : (bigSep Finset.univ fun c : Dev nD => (toks c : sProp 𝕄)) = bigSep Finset.univ fun c : Dev nD => payToks c := by
  unfold toks payToks
  rw [bigSep_sep', bigSep_sep', bigSep_sep', bigSep_sep',
    bigSep_partners (fun k => k) (fun c k => (dutyTok ER (cell c (sigIx k)) 0 (sigB k) : sProp 𝕄)),
    bigSep_partners dir (fun c j => (dutyTok ER (cell c (kRcv j)) 0 false : sProp 𝕄))]

/-! ## Dealing -/

/-- What the launch deals device `c`. -/
def G (c : Dev nD) : sProp 𝕄 :=
  iprop((bigSep Finset.univ fun k : CIx => roundState ER (Rd m) (cell c k) 0)
    ∗ (bigSep Finset.univ fun k : CIx => iprop(atPos ER (cell c k) 0 ∅ 0 ∗ reached ER (cell c k) 0)) ∗ toks c)

/-- The records that do not change: every cell's invariant, every cell at its first round. -/
def known (K : Dev nD × CIx → ℕ) : sProp 𝕄 :=
  iprop((bigSep Finset.univ fun ck : Dev nD × CIx => cellInv ER (Rd m) (K ck) (cell ck.1 ck.2))
    ∗ bigSep Finset.univ fun ck : Dev nD × CIx => reached ER (cell ck.1 ck.2) 0)

instance known_persistent (K : Dev nD × CIx → ℕ) : BI.Persistent (known m K) := by unfold known; infer_instance

/-- What stays with device `c`: its cells' positions and the tokens it pays with. -/
def mine (c : Dev nD) : sProp 𝕄 := iprop((bigSep Finset.univ fun k : CIx => atPos ER (cell c k) 0 ∅ 0) ∗ payToks c)

/-- What device `c` has of the cells before its body. -/
def G' (c : Dev nD) : sProp 𝕄 := iprop(∃ K, known m K ∗ mine c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CIx => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's semaphores that the launch hands over: those of its cells. -/
theorem sems_eq (c : Dev nD) :
    (bigSep Finset.univ fun k : CIx => semVal (cell c k) 0 : sProp 𝕄)
      = iprop(unscopedSems0 c ∗ Pipeline.ownSems0 (Ix := Unit) (Name := ℕ) (U := UU) (Lvl := ℕ) (Val := Elt F) (τ := τ) osem c) := by
  have hu : (unscopedSems0 c : sProp 𝕄) = semVal (cell c kBar) 0 := by
    unfold unscopedSems0; rw [bigSep_eq_bigSepL_of_eq [SemLoc.reg barS] (by decide) (by decide)]; rfl
  have u (Ψ : Unit → sProp 𝕄) : bigSep Finset.univ Ψ = Ψ () := bigSep_singleton
  rw [hu, bigSep_univ_sum, u]
  rfl

/-- Each of a device's cells gets its invariant. -/
theorem alloc_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (Rd m) κ (cell c k)))
          ∗ (bigSep Finset.univ fun k : CIx => iprop(atPos ER (cell c k) 0 ∅ 0 ∗ reached ER (cell c k) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : CIx => semVal (cell c k) 0) ∗ bigSep Finset.univ fun k : CIx => roundState ER (Rd m) (cell c k) 0)
      ⊢ (|={Set.univ}=> bigSep Finset.univ fun k : CIx => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- What holds for good is every device's. -/
theorem deal_known {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- With every cell's invariant at hand the tokens go to the devices that pay with them. -/
theorem deal :
    (bigSep Finset.univ fun c : Dev nD => iprop((bigSep Finset.univ fun k : CIx => iprop(∃ κ : ℕ, cellInv ER (Rd m) κ (cell c k)))
          ∗ (bigSep Finset.univ fun k : CIx => iprop(atPos ER (cell c k) 0 ∅ 0 ∗ reached ER (cell c k) 0)) ∗ toks c) : sProp 𝕄)
      ⊢ bigSep Finset.univ (G' m) := by
  rw [bigSep_sep', bigSep_sep', ← bigSep_univ_prod (fun ck : Dev nD × CIx => iprop(∃ κ : ℕ, cellInv ER (Rd m) κ (cell ck.1 ck.2))),
    bigSep_congr (s := Finset.univ) (fun (c : Dev nD) _ => bigSep_sep' Finset.univ (fun k : CIx => (atPos ER (cell c k) 0 ∅ 0 : sProp 𝕄)) (fun k => reached ER (cell c k) 0)),
    bigSep_sep', ← bigSep_univ_prod (fun ck : Dev nD × CIx => (reached ER (cell ck.1 ck.2) 0 : sProp 𝕄)), toks_dealt]
  iintro ⟨HI, ⟨Hat, #HR⟩, Htok⟩
  ihave HK := (BI.bigSep_exists_pi Finset.univ (fun (ck : Dev nD × CIx) (κ : ℕ) => (cellInv ER (Rd m) κ (cell ck.1 ck.2) : sProp 𝕄))) $$ HI
  icases HK with ⟨%K, #HI⟩
  iapply (deal_known (R := known m K) (Φ := mine) (Ψ := G' m) fun c => by
    unfold G'
    iintro H
    iexists K
    iexact H)
  isplitr
  · unfold known; isplitl; · iexact HI
    iexact HR
  · unfold mine
    rw [bigSep_sep']
    isplitl [Hat]; · iexact Hat
    iexact Htok

/-- The launch's step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_cells m c).trans (bigSep_fupd _ _)).trans (BI.fupd_mono (deal m))

/-! ## The credits -/

/-- What device `c` is credited with when every device owes the dues of a list. -/
def creds (c : Dev nD) : List Due → sProp 𝕄
  | [] => iprop(emp)
  | p :: l => iprop(creds c l ∗ cred (tallyAt (cell c p.2) () (amt p.2)))

omit [FloatOps F] in
theorem creds_cons (c : Dev nD) (p : Due) (l : List Due) : (creds c (p :: l) : sProp 𝕄) = iprop(creds c l ∗ cred (tallyAt (cell c p.2) () (amt p.2))) := rfl

omit [FloatOps F] in
theorem launch_creds (c : Dev nD) : ∀ l : List Due, (Pipeline.launchCred (fun d => owed d l) c : sProp 𝕄) ⊢ creds c l
  | [] => Entails.of_eq (Pipeline.launchCred_zero c)
  | p :: l => by
    rw [creds_cons, show (fun d => owed d (p :: l)) = fun d => owed d l + tallyAt (dueCell d p) () (amt p.2) from rfl, Pipeline.launchCred_add]
    exact (sep_mono_left (launch_creds c l)).trans
      (sep_mono_right (Pipeline.launchCred_tallyAt (csem p.2) (par p.1) (par p.1) (par_par p.1) (par_par p.1) () (amt p.2) c))

omit [FloatOps F] in
/-- The messages' credits, one for each slot of a list. -/
theorem creds_slots (c : Dev nD) : ∀ l : List Slot, l.Nodup →
    (creds c (l.map sendDue) : sProp 𝕄) ⊢ bigSep l.toFinset fun j => cred (tallyAt (cell c (kRcv j)) () N)
  | [], _ => Entails.of_eq bigSep_empty.symm
  | j :: l, h => by
    have hj : j ∉ l.toFinset := fun e => (List.nodup_cons.mp h).1 (List.mem_toFinset.mp e)
    have hb : (bigSep (j :: l).toFinset fun j => cred (tallyAt (cell c (kRcv j)) () N))
        = (iprop(cred (tallyAt (cell c (kRcv j)) () N) ∗ bigSep l.toFinset fun j => cred (tallyAt (cell c (kRcv j)) () N)) : sProp 𝕄) := by
      rw [List.toFinset_cons]; exact bigSep_insert hj
    rw [List.map_cons, creds_cons, hb]
    iintro ⟨Hl, H⟩
    isplitl [H]; · iexact H
    iapply (creds_slots c l (List.nodup_cons.mp h).2) $$ Hl

omit [FloatOps F] in
/-- A device's credits at the start: two units for each handshake, a message for each slot. -/
theorem creds_all (c : Dev nD) : (Pipeline.launchCred (fun d => owed d allDues) c : sProp 𝕄)
    ⊢ iprop(cred (tallyAt (cell c kBar) () 2) ∗ cred (tallyAt (cell c kLate) () 2) ∗ bigSep Finset.univ fun j : Slot => cred (tallyAt (cell c (kRcv j)) () N)) := by
  have two (k : CIx) : iprop(cred (tallyAt (cell c k) () 1) ∗ cred (tallyAt (cell c k) () 1)) ⊢ (cred (tallyAt (cell c k) () 2) : sProp 𝕄) := by
    refine (cred_add _ _).2.trans (Entails.of_eq (congrArg cred ?_))
    unfold tallyAt
    rw [← tallyOn_add, ← Finsupp.single_add]
  have hm : msgDues = (sends acts₁ ++ sends acts₂).map sendDue := List.map_append.symm
  refine (launch_creds c allDues).trans ?_
  rw [show allDues = (0, kBar) :: (1, kBar) :: (2, kLate) :: (3, kLate) :: msgDues from rfl, creds_cons, creds_cons, creds_cons, creds_cons, hm]
  iintro ⟨⟨⟨⟨Hm, H3⟩, H2⟩, H1⟩, H0⟩
  isplitl [H0 H1]
  · iapply (two kBar)
    isplitl [H0]; · iexact H0
    iexact H1
  isplitl [H2 H3]
  · iapply (two kLate)
    isplitl [H2]; · iexact H2
    iexact H3
  iapply ((creds_slots c (sends acts₁ ++ sends acts₂) (by decide)).trans
    (Entails.of_eq (congrArg (fun S => bigSep S fun j : Slot => (cred (tallyAt (cell c (kRcv j)) () N) : sProp 𝕄)) (by decide)))) $$ Hm

end Cert.KernelIdeal.Cube

end
-- ==== Proof.KernelIdeal.Launch.lean ====
/- The launch: every device's staging copy, body and copy back, run to the end. From any memory with every counter zero, every execution
   ends with each result array at the computed contents, the input arrays as they were and every counter zero again. -/
module

public import Idealize.ShloMosaic.Lib.Pipeline.Launch
public import Idealize.ShloMosaic.Lib.Pipeline.Kit
public import Idealize.ShloMosaic.Lib.Pipeline.CollectiveSegs

public import proofs.«01_k».proof.Proof.KernelIdeal.Ghost

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The launch's memory: any contents, every counter zero. -/
def s₀ : MemSt nD τ sig (Elt F) := ⟨m, fun _ => 0, ρ⟩

/-! ## What a device has before its body and after it -/

/-- The two scratch buffers, whole, at whatever contents. -/
def scr (c : Dev nD) : sProp 𝕄 :=
  iprop((∃ X : S12x64x256.Idx → Elt F .f32, owns (c : Thread nD τ) aM fullShare X) ∗ (∃ X : S16x64x256.Idx → Elt F .f32, owns (c : Thread nD τ) vM fullShare X))

theorem scr_eq (c : Dev nD) : (Pipeline.scopedRest cfg0.spec c : sProp 𝕄) = scr c := by
  unfold scr
  refine (scopedRest0_eq c).trans ?_
  simp only [← owns_whole]
  rfl

/-- Before: the invariants, the device's share of the cells, its credits, the order of the cells. -/
def start (c : Dev nD) : sProp 𝕄 :=
  iprop(G' m c ∗ (cred (tallyAt (cell c kBar) () 2) ∗ cred (tallyAt (cell c kLate) () 2) ∗ bigSep Finset.univ fun j : Slot => cred (tallyAt (cell c (kRcv j)) () N))
    ∗ levAts Lx lv)

def Φ₀ (c : Dev nD) : sProp 𝕄 := iprop(start m c ∗ scr c)

/-- After: every cell closed at zero. -/
def Φ₁ (c : Dev nD) : sProp 𝕄 := iprop((bigSep Finset.univ fun k : CIx => semVal (cell c k) 0) ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => owed c allDues
    | ⟨_ + 1, _⟩ => 0

/-! ## The body -/

/-- From its share of the cells and its buffers whole, a device's body runs to its buffers whole again, the result summed. -/
theorem wp_whole (c : Dev nD) (W : Waits sig Unit) (Q : PUnit → sProp 𝕄) :
    iprop(Φ₀ m c ∗ owes (c : Thread nD τ) (owed c allDues) W ∗ owns (c : Thread nD τ) xM fullShare (xstg m c)
        ∗ (∃ X : S256x256.Idx → Elt F .f32, owns (c : Thread nD τ) oM fullShare X))
      ⊢ iprop((∀ W', (Φ₁ c ∗ owes (c : Thread nD τ) 0 W' ∗ owns (c : Thread nD τ) xM fullShare (xstg m c) ∗ owns (c : Thread nD τ) oM fullShare (outAt m c)) -∗ Q ⟨⟩)
        -∗ WP c (kbody c) Q) := by
  unfold Φ₀ Φ₁ start G' known mine payToks scr
  rw [bigSep_cells, bigSep_cells]
  iintro ⟨⟨⟨⟨%K, ⟨#HI, #HR⟩, ⟨HaB, HaL, HaS, HaV⟩, HtK, HtS, HtV⟩, ⟨HcB, HcL, HcV⟩, #Hlev⟩, Ha, Hv⟩, HO, Hx, Ho⟩ Hk
  ihave Hx := (x_bands m c) $$ Hx
  ihave Ho := (o_bands m c) $$ Ho
  ihave Ha := (a_bands m c) $$ Ha
  ihave Hv := (v_bands c) $$ Hv
  iapply (wp_kbody m K c W Q) $$ [HaB HaL HaS HaV HtK HtS HtV HcB HcL HcV Ha Hv HO Hx Ho]
  · isplitr
    · unfold records
      isplitr; · iexact HI
      isplitr; · iexact HR
      iexact Hlev
    isplitl [HaB HaL HcB HcL HtK]
    · unfold shakes
      isplitl [HaB HcB]
      · isplitl [HaB]; · iexact HaB
        iexact HcB
      isplitl [HaL HcL]
      · isplitl [HaL]; · iexact HaL
        iexact HcL
      iexact HtK
    isplitl [HaS HaV HtS HtV HcV Ha Hx Ho]
    · rw [state_0]
      simp only [sendSt_0, takeSt_0]
      rw [bigSep_sep', bigSep_sep', bigSep_sep']
      isplitl [HaS HtS HtV]
      · isplitl [HtS]; · iexact HtS
        isplitl [HtV]; · iexact HtV
        iexact HaS
      isplitl [HaV HcV]
      · isplitl [HcV]; · iexact HcV
        iexact HaV
      isplitl [Hx]; · iexact Hx
      isplitl [Ha]; · iexact Ha
      iexact Ho
    isplitl [Hv]; · iexact Hv
    iexact HO
  iintro %W' ⟨HzB, HzL, Hs, HO⟩
  ihave Hs := (Entails.of_eq ((state_12 m c).trans (by
    simp only [sendSt_2, takeSt_1]
    rw [bigSep_sep']))) $$ Hs
  icases Hs with ⟨HzS, ⟨HzV, Hv⟩, Hx, Ha, Ho⟩
  ihave Hx := (x_of_bands m c) $$ Hx
  ihave Ho := (o_of_bands m c) $$ Ho
  ihave Ha := (a_of_bands m c) $$ Ha
  ihave Hv := (v_of_bands c) $$ Hv
  iapply Hk $$ %W'
  isplitl [HzB HzL HzS HzV Ha Hv]
  · isplitl [HzB HzL HzS HzV]
    · isplitl [HzB]; · iexact HzB
      isplitl [HzL]; · iexact HzL
      isplitl [HzS]; · iexact HzS
      iexact HzV
    isplitl [Ha]; · iexact Ha
    iexact Hv
  isplitl [HO]; · iexact HO
  isplitl [Hx]; · iexact Hx
  iexact Ho

omit [FloatOps F] in
theorem bigSep_W (Φ : Fin cfg0.W → sProp 𝕄) : bigSep Finset.univ Φ = iprop(Φ (0 : Fin 2) ∗ Φ (1 : Fin 2)) := bigSep_W0 Φ

/-- The grid's one point. -/
abbrev t₀ : Fin cfg0.N := t0_0

set_option maxRecDepth 100000 in
/-- What the launch asks of the body on device `c`. -/
theorem body_obligation (c : Dev nD) : BodyObligation (dats (F := F) m ρ 0 c) (defs₀ (F := F)) 𝒱₀ () Set.univ := fun t => by
  rw [show t = t₀ from fin_N0 t, bigSep_W, bigSep_W]
  show iprop(Φ₀ m c ∗ (dats m ρ 0 c).owesAt () t₀.castSucc
      ∗ (∃ d, owns (c : Thread nD τ) xM fullShare ((dats m ρ 0 c).before (0 : Fin 2) t₀ d))
      ∗ (∃ d, owns (c : Thread nD τ) oM fullShare ((dats m ρ 0 c).before (1 : Fin 2) t₀ d)))
    ⊢ wp frame (wpE (defs₀ (F := F)) 𝒱₀ (c : Thread nD τ) none) Set.univ
      (cc0_body xM (Memref.isWhole_whole _) oM (Memref.isWhole_whole _) aM (Memref.isWhole_whole _) vM (Memref.isWhole_whole _) cc0_scratch2 cc0_scratch3 cc0_scratch4)
      (fun _ => iprop(Φ₁ c ∗ (dats m ρ 0 c).owesAt () t₀.succ ∗ owns (c : Thread nD τ) xM fullShare (xstg m c) ∗ owns (c : Thread nD τ) oM fullShare (outAt m c)))
  rw [body_eq, wp_deviceId]
  unfold Dat.owesAt Pipeline.owesWithin
  rw [show (dats m ρ 0 c).owed t₀.castSucc = owed c allDues from rfl, show (dats m ρ 0 c).owed t₀.succ = 0 from rfl]
  iintro ⟨HΦ, ⟨%W, %hW, HO⟩, ⟨%d, Hx⟩, ⟨%d', Ho⟩⟩
  have hx : (dats m ρ 0 c).before (0 : Fin 2) t₀ d = xstg m c := by unfold Dat.before; rw [if_pos (fetch0_0 t₀)]; rfl
  ihave Hx := (Entails.of_eq (congrArg (fun X => (owns (c : Thread nD τ) xM fullShare X : sProp 𝕄)) hx)) $$ Hx
  iapply (wp_whole m c W _) $$ [HΦ HO Hx Ho]
  · isplitl [HΦ]; · iexact HΦ
    isplitl [HO]; · iexact HO
    isplitl [Hx]; · iexact Hx
    iexists _; iexact Ho
  iintro %W' ⟨HΦ, HO, Hx, Ho⟩
  isplitl [HΦ]; · iexact HΦ
  isplitl [HO]
  · iexists W'
    isplitr; · ipureintro; exact fun _ _ => Or.inl trivial
    iexact HO
  isplitl [Hx]; · iexact Hx
  iexact Ho

/-! ## The launch's conditions -/

theorem ownSemFacts : Pipeline.OwnSemFacts cfg0.spec osem := by decide

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts Lx lv
        ∗ Pipeline.launchCred (fun d => owed d allDues) c ∗ prngReg c (ρ c) ∗ G' m c)
      ⊢ |={Set.univ}=> iprop(start m c ∗ emp) := by
  iintro ⟨-, Hlev, Hcr, -, HG⟩
  ihave Hc := (creds_all (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq]
  unfold Φ₁
  rw [sems_eq]
  iintro ⟨⟨HB, HS⟩, Hr⟩
  isplitl [HB]; · iexact HB
  isplitl [HS]; · iexact HS
  iexact Hr

theorem above_stage : ∀ p ∈ allDues, 0 < level p.2 := by decide

/-- The staging copies' cells are below every cell a device owes. -/
theorem mayWait_stage (c : Dev nD) (q : DmaSem sig) (hq : q.val < 2) (O : CellTallies nD τ sig Unit) (hO : O = owed c allDues ∨ O = 0) :
    (levAts Lx lv : sProp 𝕄) ⊢ MayWait (c : Thread nD τ) (.dma q) () O := by
  have h0 : lv ((c : Thread nD τ), SemLoc.dma q) () = 0 := by
    show (kindOf (SemLoc.dma q)).elim 0 level = 0
    rw [show kindOf (SemLoc.dma q) = none from if_pos hq]; rfl
  rcases hO with rfl | rfl
  · exact mayWait_of c (.dma q) allDues fun p hp => h0 ▸ above_stage p hp
  · rw [MayWait_zero]; iintro -; iempintro

theorem waits (c : Dev nD) : (levAts Lx lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds on device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every execution ends, every array at its computed contents and every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d allDues) (howed₀ := fun _ => rfl) (howedN := fun _ => rfl)
    (L := Lx) (lv := lv) (hL := Lx_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input's array ends as it was. -/
theorem finalA_x (c : Dev nD) : finalA m ρ c (0 : Fin 2) = m ((c : Thread nD τ).loc main_arg0) :=
  (dats (F := F) m ρ 0 c).arrAt_in (0 : Fin 2) rfl _

end Cert.KernelIdeal.Cube

end
-- ==== Proof.KernelIdeal.Value.lean ====
/- What the result holds, over the extended reals: on every device, at every index, the sum of the sixteen devices' blocks at that index;
   and that this is the reference's sum of the whole array over its first three axes. -/
module

public import Idealize.ShloMosaic.Lib.IdealHost
public import Idealize.ShloMosaic.Lib.Layout
public import Idealize.ShloMosaic.Lib.Pointwise.Reduce

public import proofs.«01_k».proof.Proof.KernelIdeal.Launch
public import proofs.«01_k».proof.Proof.Gen.ReferenceIdeal.Run

@[expose] public section

noncomputable section

namespace Cert.KernelIdeal.Cube

open Idealize.ShloMosaic Idealize.ShloMosaic.TcCoe
open Idealize.SL.Sem
open Cert.KernelIdeal Cert.KernelIdeal.Gen

/-! ## The result array after the launch -/

section
variable {F : FTy → Type} [FloatOps F]
variable (m : (ℓ : Loc nD τ sig) → Buf (Elt F) ℓ) (ρ : Dev nD → PrngReg)

/-- The result's one window is the whole array, -/
theorem out_cover (i : S256x256.Idx) : ∃ t : Fin cfg0.N, (cfg0.win 1).flush t = true ∧ i ∈ ((cfg0.win 1).blk t).view.set := by
  refine ⟨t₀, flush0_1 _, ?_⟩
  show i ∈ ((View.whole main_v1).slice (win0_1.rect t₀)).set
  rw [View.set_slice_whole, Rect.mem_set_unit]
  have e : ∀ a : Fin 2, win0_1.index t₀ a * win0_1.size a = 0 ∧ win0_1.xsize (grid0.coords t₀) a = S256x256.size a := by decide +kernel
  intro a
  have h : (i a : ℕ) < S256x256.size a := (i a).isLt
  have ea := e a
  show win0_1.index t₀ a * win0_1.size a ≤ (i a : ℕ) ∧ (i a : ℕ) < win0_1.index t₀ a * win0_1.size a + win0_1.xsize (grid0.coords t₀) a
  rw [ea.1, ea.2]
  omega

/-- so the array ends at what the body left in the result's buffer. -/
theorem finalA_out (c : Dev nD) : finalA m ρ c (1 : Fin 2) = outAt m c :=
  (dats m ρ 0 c).arrAt_eq_of_cover 1 (outAt m c) (fun t _ => by
    obtain rfl := fin_N0 t
    exact (Memref.read_access_unit_zero (Elt F) main_v1 (funext fun a => by revert a; decide +kernel) (by decide +kernel) (outAt m c)).symm) out_cover

/-- The input's one window is the whole array: what is staged is the device's array. -/
theorem xstg_eq (c : Dev nD) : xstg m c = m ((c : Thread nD τ).loc main_arg0) :=
  Memref.read_access_unit_zero (Elt F) main_arg0 (funext fun a => by revert a; decide +kernel) (by decide +kernel) (m ((c : Thread nD τ).loc main_arg0))

/-- Stream `s`'s partial sum after no step is the rows of the device's array. -/
theorem valN_zero (s : Fin 4) (d : Dev nD) (y : S64x256.Idx) :
    valN m s 0 d y = m ((d : Thread nD τ).loc main_arg0) (ix5 0 0 0 ((oRect s).emb y 0) ((oRect s).emb y 1)) := by
  have e : valN m s 0 d y = xstg m d ((xRect s).emb (Shape.reshapeEquiv squeezes_S1x1x1x64x256_S64x256.numel_eq y)) := rfl
  have hy : Shape.reshapeEquiv squeezes_S1x1x1x64x256_S64x256.numel_eq y = (ix5 0 0 0 (y 0) (y 1) : S1x1x1x64x256.Idx) :=
    Shape.reshapeEquiv_eq_of_rowMajor _ (by
      rw [Shape.rowMajor_val_five, Shape.rowMajor_val_two]
      show ((((0 * 1 + 0) * 1 + 0) * 64 + (y 0 : ℕ)) * 256 + (y 1 : ℕ)) = (y 0 : ℕ) * 256 + (y 1 : ℕ)
      omega)
  rw [e, hy, xstg_eq]
  congr 1
  funext a
  apply Fin.ext
  match a with
  | ⟨0, _⟩ => rfl
  | ⟨1, _⟩ => rfl
  | ⟨2, _⟩ => rfl
  | ⟨3, _⟩ => rfl
  | ⟨4, _⟩ => rfl

end

/-! ## A stream's partial sums -/

/-- The devices whose rows are in stream `s`'s partial sum on device `c` after `n` steps. -/
def heard (s : Fin 4) : ℕ → Dev nD → Finset (Dev nD)
  | 0, c => {c}
  | n + 1, c => heard s n c ∪ heard s n (peer (s, Fin.ofNat 4 n) c)

/-- A step adds devices not heard of before, -/
theorem heard_disjoint : ∀ (s n : Fin 4) (c : Dev nD), Disjoint (heard s n.val c) (heard s n.val (peer (s, Fin.ofNat 4 n.val) c)) := by
  decide +kernel

/-- and after four every device is heard. -/
theorem heard_all : ∀ (s : Fin 4) (c : Dev nD), heard s 4 c = Finset.univ := by decide +kernel

variable (m : (ℓ : Loc nD τ sig) → Buf (Elt Ideal) ℓ) (ρ : Dev nD → PrngReg)

/-- A partial sum is the sum over the devices heard. -/
theorem valN_sum (s : Fin 4) (y : S64x256.Idx) : ∀ n : ℕ, n ≤ 4 → ∀ c : Dev nD,
    (valN m s n c y : EReal) = ∑ d ∈ heard s n c, (valN m s 0 d y : EReal)
  | 0, _, c => (Finset.sum_singleton _ _).symm
  | n + 1, hn, c => by
    have ih := valN_sum s y n (by omega)
    show ((valN m s n c y : EReal) + (valN m s n (peer (s, Fin.ofNat 4 n) c) y : EReal) : EReal) = _
    rw [ih c, ih (peer (s, Fin.ofNat 4 n) c)]
    exact (Finset.sum_union (heard_disjoint s ⟨n, by omega⟩ c)).symm

/-- The sum of the devices' blocks at an index. -/
def blockSum (i : S256x256.Idx) : EReal :=
  ∑ d : Dev nD, (m ((d : Thread nD τ).loc main_arg0) (ix5 0 0 0 (i 0) (i 1)) : EReal)

/-- The result at an index is the sum of the devices' blocks there. -/
theorem outAt_sum (c : Dev nD) (i : S256x256.Idx) :
    outAt m c i = blockSum m i := by
  have h : outAt m c = blockSum m := by
    refine Rect.ext_of_cover oRect o_cover fun s y => ?_
    rw [outAt_emb]
    refine (valN_sum m s y 4 (le_refl 4) c).trans ?_
    rw [heard_all]
    exact Finset.sum_congr rfl fun d _ => valN_zero m s d y
  exact congrFun h i

/-! ## The reference -/

/-- Where index `j` of device `d`'s block is in the whole array. -/
def place (j : S256x256.Idx) (d : Dev nD) : (⟨5, ![2, 2, 4, 256, 256]⟩ : Shape).Idx :=
  have h : d.val < 16 := d.isLt
  ix5 ⟨d.val / 8, by omega⟩ ⟨d.val / 4 % 2, by omega⟩ ⟨d.val % 4, by omega⟩ (j 0) (j 1)

/-- The reference's sum at an index is over the devices' blocks, each at that index. -/
theorem ref_sum (h : (⟨5, ![2, 2, 4, 256, 256]⟩ : Shape).ReducesTo [0, 1, 2] S256x256) (v : (⟨5, ![2, 2, 4, 256, 256]⟩ : Shape).Idx → EReal) (j : S256x256.Idx) :
    (∑ i ∈ Finset.univ.filter (fun i => h.drop i = j), v i) = ∑ d : Dev nD, v (place j d) := by
  refine Finset.sum_filter_eq_sum_of_fiber _ (place j) (fun a b e => ?_) (fun i => ?_) v
  · have h0 : a.val / 8 = b.val / 8 := congrArg Fin.val (congrFun e 0)
    have h1 : a.val / 4 % 2 = b.val / 4 % 2 := congrArg Fin.val (congrFun e 1)
    have h2 : a.val % 4 = b.val % 4 := congrArg Fin.val (congrFun e 2)
    exact Fin.ext (by omega)
  · have e0 : (h.drop i 0 : ℕ) = i 3 := rfl
    have e1 : (h.drop i 1 : ℕ) = i 4 := rfl
    have l0 : (i 0 : ℕ) < 2 := (i 0).isLt
    have l1 : (i 1 : ℕ) < 2 := (i 1).isLt
    have l2 : (i 2 : ℕ) < 4 := (i 2).isLt
    constructor
    · rintro rfl
      refine ⟨⟨(i 0 : ℕ) * 8 + (i 1 : ℕ) * 4 + (i 2 : ℕ), by show _ < 16; omega⟩, ?_⟩
      funext a
      apply Fin.ext
      match a with
      | ⟨0, _⟩ => show ((i 0 : ℕ) * 8 + (i 1 : ℕ) * 4 + (i 2 : ℕ)) / 8 = i 0; omega
      | ⟨1, _⟩ => show ((i 0 : ℕ) * 8 + (i 1 : ℕ) * 4 + (i 2 : ℕ)) / 4 % 2 = i 1; omega
      | ⟨2, _⟩ => show ((i 0 : ℕ) * 8 + (i 1 : ℕ) * 4 + (i 2 : ℕ)) % 4 = i 2; omega
      | ⟨3, _⟩ => exact e0
      | ⟨4, _⟩ => exact e1
    · rintro ⟨d, rfl⟩
      funext a
      apply Fin.ext
      match a with
      | ⟨0, _⟩ => exact e0
      | ⟨1, _⟩ => exact e1

/-- A device that holds its block of `x` holds at index `j` what `x` holds there. -/
theorem block_at (x : (⟨5, ![2, 2, 4, 256, 256]⟩ : Shape).Idx → Ideal .f32) (d : Dev nD)
    (hm : m ((d : Thread nD τ).loc main_arg0) = Layout.blockN ⟨5, ![1, 1, 1, 256, 256]⟩ ⟨5, ![2, 2, 4, 256, 256]⟩ (Layout.meshBlock [2, 2, 4] ![[0], [1], [2], [], []] d) x)
    (j : S256x256.Idx) : m ((d : Thread nD τ).loc main_arg0) (ix5 0 0 0 (j 0) (j 1)) = x (place j d) := by
  rw [hm, Layout.blockN_apply]
  congr 1
  funext a
  apply Fin.ext
  rw [Layout.TilesN.idx_val]
  have hd : ∀ d : Fin 16, Layout.meshLin [2, 2, 4] d.val [0] = d.val / 8 ∧ Layout.meshLin [2, 2, 4] d.val [1] = d.val / 4 % 2
      ∧ Layout.meshLin [2, 2, 4] d.val [2] = d.val % 4 := by decide
  obtain ⟨h0, h1, h2⟩ := hd d
  match a with
  | ⟨0, _⟩ => exact congrArg (· * 1 + 0) h0 |>.trans (by show d.val / 8 * 1 + 0 = d.val / 8; omega)
  | ⟨1, _⟩ => exact congrArg (· * 1 + 0) h1 |>.trans (by show d.val / 4 % 2 * 1 + 0 = d.val / 4 % 2; omega)
  | ⟨2, _⟩ => exact congrArg (· * 1 + 0) h2 |>.trans (by show d.val % 4 * 1 + 0 = d.val % 4; omega)
  | ⟨3, _⟩ => show 0 * 256 + (j 0 : ℕ) = j 0; omega
  | ⟨4, _⟩ => show 0 * 256 + (j 1 : ℕ) = j 1; omega

/-- When every device holds its block of `x`, every device's result is the sum of `x` over its first three axes. -/
theorem outAt_ref (x : (⟨5, ![2, 2, 4, 256, 256]⟩ : Shape).Idx → Ideal .f32)
    (hm : ∀ c : Dev nD, m ((c : Thread nD τ).loc main_arg0) = Layout.blockN ⟨5, ![1, 1, 1, 256, 256]⟩ ⟨5, ![2, 2, 4, 256, 256]⟩ (Layout.meshBlock [2, 2, 4] ![[0], [1], [2], [], []] c) x)
    (h : (⟨5, ![2, 2, 4, 256, 256]⟩ : Shape).ReducesTo [0, 1, 2] S256x256) (hu : 0 < (⟨0, ![]⟩ : Shape).numel) (c : Dev nD) :
    outAt m c = Host.reduceAdd x (constant (⟨0, ![]⟩ : Shape) .f32 0x00000000#32) h hu := by
  funext j
  have hz : (constant (F := Ideal) (⟨0, ![]⟩ : Shape) .f32 0x00000000#32 (Shape.Idx.first hu) : EReal) = 0 := Ideal.ofBits_zero_f32
  have hb : blockSum m j = ∑ d : Dev nD, (x (place j d) : EReal) := Finset.sum_congr rfl fun d _ => block_at m x d (hm d) j
  have hr : Ideal.hostReduceAdd h x (constant (F := Ideal) (⟨0, ![]⟩ : Shape) .f32 0x00000000#32 (Shape.Idx.first hu)) j = ∑ d : Dev nD, (x (place j d) : EReal) := by
    unfold Ideal.hostReduceAdd
    rw [hz, zero_add, ref_sum]
  rw [ValueIdx.hostReduceAdd_apply]
  exact (outAt_sum m c j).trans (hb.trans hr.symm)

end Cert.KernelIdeal.Cube

end
-- ==== Proof.lean ====
module

public import proofs.«01_k».proof.Defs
public import proofs.«01_k».proof.Proof.Gen.ReferenceIdeal.Run
public import proofs.«01_k».proof.Proof.Kernel.Launch
public import proofs.«01_k».proof.Proof.KernelIdeal.Launch
public import proofs.«01_k».proof.Proof.KernelIdeal.Value
public import Idealize.ShloMosaic.Adequacy
public import Idealize.ShloMosaic.Init

@[expose] public section

noncomputable section

namespace Cert.Proof

open Idealize.ShloMosaic Idealize.ShloMosaic.TcCoe Idealize.SL.Sem

/-- The kernel ends on every device with its argument as it was and every counter zero; -/
theorem quiescent_kernel : Cert.quiescent_Kernel (hKernel := Cert.Kernel.Gen.facts) := fun m ρ _ =>
  (θ_run Cert.Kernel.defs _ _).mono
    (fun _ h => ⟨fun c => (h.1 c (0 : Fin 2)).trans (Cert.Kernel.Cube.finalA_x m ρ c), h.2⟩)
    (Cert.Kernel.Cube.run_main (F := Bits) m ρ)

/-- so does the kernel over the extended reals, -/
theorem quiescent_kernelIdeal : Cert.quiescent_KernelIdeal (hKernelIdeal := Cert.KernelIdeal.Gen.facts) := fun m ρ _ =>
  (θ_run Cert.KernelIdeal.defs _ _).mono
    (fun _ h => ⟨fun c => (h.1 c (0 : Fin 2)).trans (Cert.KernelIdeal.Cube.finalA_x m ρ c), h.2⟩)
    (Cert.KernelIdeal.Cube.run_main (F := Ideal) m ρ)

/-- and the reference. -/
theorem quiescent_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's: the sum of the whole array over its first three axes. -/
theorem algebraic : Cert.algebraic_KernelIdeal_ReferenceIdeal (hKernelIdeal := Cert.KernelIdeal.Gen.facts) (hReferenceIdeal := Cert.ReferenceIdeal.Gen.facts) :=
  fun m ρ m' ρ' _ hm =>
    ⟨_, (θ_run Cert.KernelIdeal.defs _ _).mono
        (fun _ h c => ⟨(h.1 c (1 : Fin 2)).trans ((Cert.KernelIdeal.Cube.finalA_out m ρ c).trans
            (Cert.KernelIdeal.Cube.outAt_ref m _ hm Cert.ReferenceIdeal.Gen.reducesTo_S2x2x4x256x256_S256x256_d0_1_2 Cert.ReferenceIdeal.Gen.h_S_ c)),
          (h.1 c (0 : Fin 2)).trans (Cert.KernelIdeal.Cube.finalA_x m ρ c)⟩)
        (Cert.KernelIdeal.Cube.run_main (F := Ideal) m ρ),
      (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    quiescent_kernel, quiescent_kernelIdeal, quiescent_referenceIdeal, trivial, algebraic⟩

end Cert.Proof

end
